-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SumsIdeal (m : (ℓ : Loc Cert.SumsIdeal.nD Cert.SumsIdeal.τ Cert.SumsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12)
      ∧ r.2.mem ((c.tc : Thread Cert.Reference.nD Cert.Reference.τ).loc Cert.Reference.main_arg13) = m ((c.tc : Thread Cert.Reference.nD Cert.Reference.τ).loc Cert.Reference.main_arg13)
      ∧ r.2.mem ((c.tc : Thread Cert.Reference.nD Cert.Reference.τ).loc Cert.Reference.main_arg14) = m ((c.tc : Thread Cert.Reference.nD Cert.Reference.τ).loc Cert.Reference.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
      ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
      ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
      ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
      ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
      ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6)
      ∧ r.2.mem ((c.tc : Thread Cert.SumsIdeal.nD Cert.SumsIdeal.τ).loc Cert.SumsIdeal.main_arg7) = m ((c.tc : Thread Cert.SumsIdeal.nD Cert.SumsIdeal.τ).loc Cert.SumsIdeal.main_arg7)
      ∧ r.2.mem ((c.tc : Thread Cert.SumsIdeal.nD Cert.SumsIdeal.τ).loc Cert.SumsIdeal.main_arg8) = m ((c.tc : Thread Cert.SumsIdeal.nD Cert.SumsIdeal.τ).loc Cert.SumsIdeal.main_arg8)
      ∧ r.2.mem ((c.tc : Thread Cert.SumsIdeal.nD Cert.SumsIdeal.τ).loc Cert.SumsIdeal.main_arg9) = m ((c.tc : Thread Cert.SumsIdeal.nD Cert.SumsIdeal.τ).loc Cert.SumsIdeal.main_arg9)
      ∧ r.2.mem ((c.tc : Thread Cert.SumsIdeal.nD Cert.SumsIdeal.τ).loc Cert.SumsIdeal.main_arg10) = m ((c.tc : Thread Cert.SumsIdeal.nD Cert.SumsIdeal.τ).loc Cert.SumsIdeal.main_arg10)
      ∧ r.2.mem ((c.tc : Thread Cert.SumsIdeal.nD Cert.SumsIdeal.τ).loc Cert.SumsIdeal.main_arg11) = m ((c.tc : Thread Cert.SumsIdeal.nD Cert.SumsIdeal.τ).loc Cert.SumsIdeal.main_arg11)
      ∧ r.2.mem ((c.tc : Thread Cert.SumsIdeal.nD Cert.SumsIdeal.τ).loc Cert.SumsIdeal.main_arg12) = m ((c.tc : Thread Cert.SumsIdeal.nD Cert.SumsIdeal.τ).loc Cert.SumsIdeal.main_arg12)
      ∧ r.2.mem ((c.tc : Thread Cert.SumsIdeal.nD Cert.SumsIdeal.τ).loc Cert.SumsIdeal.main_arg13) = m ((c.tc : Thread Cert.SumsIdeal.nD Cert.SumsIdeal.τ).loc Cert.SumsIdeal.main_arg13)
      ∧ r.2.mem ((c.tc : Thread Cert.SumsIdeal.nD Cert.SumsIdeal.τ).loc Cert.SumsIdeal.main_arg14) = m ((c.tc : Thread Cert.SumsIdeal.nD Cert.SumsIdeal.τ).loc Cert.SumsIdeal.main_arg14))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)
      ∧ m' ((c.tc : Thread Cert.Reference.nD Cert.Reference.τ).loc Cert.Reference.main_arg7) = m ((c.tc : Thread Cert.Kernel.nD Cert.Kernel.τ).loc Cert.Kernel.main_arg7)
      ∧ m' ((c.tc : Thread Cert.Reference.nD Cert.Reference.τ).loc Cert.Reference.main_arg8) = m ((c.tc : Thread Cert.Kernel.nD Cert.Kernel.τ).loc Cert.Kernel.main_arg8)
      ∧ m' ((c.tc : Thread Cert.Reference.nD Cert.Reference.τ).loc Cert.Reference.main_arg9) = m ((c.tc : Thread Cert.Kernel.nD Cert.Kernel.τ).loc Cert.Kernel.main_arg9)
      ∧ m' ((c.tc : Thread Cert.Reference.nD Cert.Reference.τ).loc Cert.Reference.main_arg10) = m ((c.tc : Thread Cert.Kernel.nD Cert.Kernel.τ).loc Cert.Kernel.main_arg10)
      ∧ m' ((c.tc : Thread Cert.Reference.nD Cert.Reference.τ).loc Cert.Reference.main_arg11) = m ((c.tc : Thread Cert.Kernel.nD Cert.Kernel.τ).loc Cert.Kernel.main_arg11)
      ∧ m' ((c.tc : Thread Cert.Reference.nD Cert.Reference.τ).loc Cert.Reference.main_arg12) = m ((c.tc : Thread Cert.Kernel.nD Cert.Kernel.τ).loc Cert.Kernel.main_arg12)
      ∧ m' ((c.tc : Thread Cert.Reference.nD Cert.Reference.τ).loc Cert.Reference.main_arg13) = m ((c.tc : Thread Cert.Kernel.nD Cert.Kernel.τ).loc Cert.Kernel.main_arg13)
      ∧ m' ((c.tc : Thread Cert.Reference.nD Cert.Reference.τ).loc Cert.Reference.main_arg14) = m ((c.tc : Thread Cert.Kernel.nD Cert.Kernel.τ).loc Cert.Kernel.main_arg14)) →
    ∃ (v0 : (c : Dev Cert.Kernel.nD) → Buf (Elt Bits) ((c.tc : Thread Cert.Kernel.nD Cert.Kernel.τ).loc Cert.Kernel.main_v49)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v49) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8)
          ∧ r.2.mem ((c.tc : Thread Cert.Kernel.nD Cert.Kernel.τ).loc Cert.Kernel.main_arg9) = m ((c.tc : Thread Cert.Kernel.nD Cert.Kernel.τ).loc Cert.Kernel.main_arg9)
          ∧ r.2.mem ((c.tc : Thread Cert.Kernel.nD Cert.Kernel.τ).loc Cert.Kernel.main_arg10) = m ((c.tc : Thread Cert.Kernel.nD Cert.Kernel.τ).loc Cert.Kernel.main_arg10)
          ∧ r.2.mem ((c.tc : Thread Cert.Kernel.nD Cert.Kernel.τ).loc Cert.Kernel.main_arg11) = m ((c.tc : Thread Cert.Kernel.nD Cert.Kernel.τ).loc Cert.Kernel.main_arg11)
          ∧ r.2.mem ((c.tc : Thread Cert.Kernel.nD Cert.Kernel.τ).loc Cert.Kernel.main_arg12) = m ((c.tc : Thread Cert.Kernel.nD Cert.Kernel.τ).loc Cert.Kernel.main_arg12)
          ∧ r.2.mem ((c.tc : Thread Cert.Kernel.nD Cert.Kernel.τ).loc Cert.Kernel.main_arg13) = m ((c.tc : Thread Cert.Kernel.nD Cert.Kernel.τ).loc Cert.Kernel.main_arg13)
          ∧ r.2.mem ((c.tc : Thread Cert.Kernel.nD Cert.Kernel.τ).loc Cert.Kernel.main_arg14) = m ((c.tc : Thread Cert.Kernel.nD Cert.Kernel.τ).loc Cert.Kernel.main_arg14))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v48) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6)
          ∧ r.2.mem ((c.tc : Thread Cert.Reference.nD Cert.Reference.τ).loc Cert.Reference.main_arg7) = m' ((c.tc : Thread Cert.Reference.nD Cert.Reference.τ).loc Cert.Reference.main_arg7)
          ∧ r.2.mem ((c.tc : Thread Cert.Reference.nD Cert.Reference.τ).loc Cert.Reference.main_arg8) = m' ((c.tc : Thread Cert.Reference.nD Cert.Reference.τ).loc Cert.Reference.main_arg8)
          ∧ r.2.mem ((c.tc : Thread Cert.Reference.nD Cert.Reference.τ).loc Cert.Reference.main_arg9) = m' ((c.tc : Thread Cert.Reference.nD Cert.Reference.τ).loc Cert.Reference.main_arg9)
          ∧ r.2.mem ((c.tc : Thread Cert.Reference.nD Cert.Reference.τ).loc Cert.Reference.main_arg10) = m' ((c.tc : Thread Cert.Reference.nD Cert.Reference.τ).loc Cert.Reference.main_arg10)
          ∧ r.2.mem ((c.tc : Thread Cert.Reference.nD Cert.Reference.τ).loc Cert.Reference.main_arg11) = m' ((c.tc : Thread Cert.Reference.nD Cert.Reference.τ).loc Cert.Reference.main_arg11)
          ∧ r.2.mem ((c.tc : Thread Cert.Reference.nD Cert.Reference.τ).loc Cert.Reference.main_arg12) = m' ((c.tc : Thread Cert.Reference.nD Cert.Reference.τ).loc Cert.Reference.main_arg12)
          ∧ r.2.mem ((c.tc : Thread Cert.Reference.nD Cert.Reference.τ).loc Cert.Reference.main_arg13) = m' ((c.tc : Thread Cert.Reference.nD Cert.Reference.τ).loc Cert.Reference.main_arg13)
          ∧ r.2.mem ((c.tc : Thread Cert.Reference.nD Cert.Reference.τ).loc Cert.Reference.main_arg14) = m' ((c.tc : Thread Cert.Reference.nD Cert.Reference.τ).loc Cert.Reference.main_arg14))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def algebraic_KernelIdeal_SumsIdeal [hKernelIdeal : Cert.KernelIdeal.Facts] [hSumsIdeal : Cert.SumsIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SumsIdeal.nD Cert.SumsIdeal.τ Cert.SumsIdeal.sig) → Buf (Elt Ideal) ℓ) (g' : Dev Cert.SumsIdeal.nD → PrngReg), Pre_KernelIdeal m →
    (∀ c : Dev Cert.KernelIdeal.nD,
      m' ((c.tc : Thread Cert.SumsIdeal.nD Cert.SumsIdeal.τ).loc Cert.SumsIdeal.main_arg0) = m ((c.tc : Thread Cert.KernelIdeal.nD Cert.KernelIdeal.τ).loc Cert.KernelIdeal.main_arg0)
      ∧ m' ((c.tc : Thread Cert.SumsIdeal.nD Cert.SumsIdeal.τ).loc Cert.SumsIdeal.main_arg1) = m ((c.tc : Thread Cert.KernelIdeal.nD Cert.KernelIdeal.τ).loc Cert.KernelIdeal.main_arg1)
      ∧ m' ((c.tc : Thread Cert.SumsIdeal.nD Cert.SumsIdeal.τ).loc Cert.SumsIdeal.main_arg2) = m ((c.tc : Thread Cert.KernelIdeal.nD Cert.KernelIdeal.τ).loc Cert.KernelIdeal.main_arg2)
      ∧ m' ((c.tc : Thread Cert.SumsIdeal.nD Cert.SumsIdeal.τ).loc Cert.SumsIdeal.main_arg3) = m ((c.tc : Thread Cert.KernelIdeal.nD Cert.KernelIdeal.τ).loc Cert.KernelIdeal.main_arg3)
      ∧ m' ((c.tc : Thread Cert.SumsIdeal.nD Cert.SumsIdeal.τ).loc Cert.SumsIdeal.main_arg4) = m ((c.tc : Thread Cert.KernelIdeal.nD Cert.KernelIdeal.τ).loc Cert.KernelIdeal.main_arg4)
      ∧ m' ((c.tc : Thread Cert.SumsIdeal.nD Cert.SumsIdeal.τ).loc Cert.SumsIdeal.main_arg5) = m ((c.tc : Thread Cert.KernelIdeal.nD Cert.KernelIdeal.τ).loc Cert.KernelIdeal.main_arg5)
      ∧ m' ((c.tc : Thread Cert.SumsIdeal.nD Cert.SumsIdeal.τ).loc Cert.SumsIdeal.main_arg6) = m ((c.tc : Thread Cert.KernelIdeal.nD Cert.KernelIdeal.τ).loc Cert.KernelIdeal.main_arg6)
      ∧ m' ((c.tc : Thread Cert.SumsIdeal.nD Cert.SumsIdeal.τ).loc Cert.SumsIdeal.main_arg7) = m ((c.tc : Thread Cert.KernelIdeal.nD Cert.KernelIdeal.τ).loc Cert.KernelIdeal.main_arg7)
      ∧ m' ((c.tc : Thread Cert.SumsIdeal.nD Cert.SumsIdeal.τ).loc Cert.SumsIdeal.main_arg8) = m ((c.tc : Thread Cert.KernelIdeal.nD Cert.KernelIdeal.τ).loc Cert.KernelIdeal.main_arg8)
      ∧ m' ((c.tc : Thread Cert.SumsIdeal.nD Cert.SumsIdeal.τ).loc Cert.SumsIdeal.main_arg9) = m ((c.tc : Thread Cert.KernelIdeal.nD Cert.KernelIdeal.τ).loc Cert.KernelIdeal.main_arg9)
      ∧ m' ((c.tc : Thread Cert.SumsIdeal.nD Cert.SumsIdeal.τ).loc Cert.SumsIdeal.main_arg10) = m ((c.tc : Thread Cert.KernelIdeal.nD Cert.KernelIdeal.τ).loc Cert.KernelIdeal.main_arg10)
      ∧ m' ((c.tc : Thread Cert.SumsIdeal.nD Cert.SumsIdeal.τ).loc Cert.SumsIdeal.main_arg11) = m ((c.tc : Thread Cert.KernelIdeal.nD Cert.KernelIdeal.τ).loc Cert.KernelIdeal.main_arg11)
      ∧ m' ((c.tc : Thread Cert.SumsIdeal.nD Cert.SumsIdeal.τ).loc Cert.SumsIdeal.main_arg12) = m ((c.tc : Thread Cert.KernelIdeal.nD Cert.KernelIdeal.τ).loc Cert.KernelIdeal.main_arg12)
      ∧ m' ((c.tc : Thread Cert.SumsIdeal.nD Cert.SumsIdeal.τ).loc Cert.SumsIdeal.main_arg13) = m ((c.tc : Thread Cert.KernelIdeal.nD Cert.KernelIdeal.τ).loc Cert.KernelIdeal.main_arg13)
      ∧ m' ((c.tc : Thread Cert.SumsIdeal.nD Cert.SumsIdeal.τ).loc Cert.SumsIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.SumsIdeal.defs (F := Ideal)) (onTc (τ := Cert.SumsIdeal.τ) (Cert.SumsIdeal.main (F := Ideal))) ⟨m', fun _ => 0, g'⟩ (fun r => ∀ c : Dev Cert.SumsIdeal.nD,
          r.2.mem ((c.tc : Thread Cert.SumsIdeal.nD Cert.SumsIdeal.τ).loc Cert.SumsIdeal.main_v85) = v0 c
          ∧ r.2.mem ((c.tc : Thread Cert.SumsIdeal.nD Cert.SumsIdeal.τ).loc Cert.SumsIdeal.main_arg0) = m' ((c.tc : Thread Cert.SumsIdeal.nD Cert.SumsIdeal.τ).loc Cert.SumsIdeal.main_arg0)
          ∧ r.2.mem ((c.tc : Thread Cert.SumsIdeal.nD Cert.SumsIdeal.τ).loc Cert.SumsIdeal.main_arg1) = m' ((c.tc : Thread Cert.SumsIdeal.nD Cert.SumsIdeal.τ).loc Cert.SumsIdeal.main_arg1)
          ∧ r.2.mem ((c.tc : Thread Cert.SumsIdeal.nD Cert.SumsIdeal.τ).loc Cert.SumsIdeal.main_arg2) = m' ((c.tc : Thread Cert.SumsIdeal.nD Cert.SumsIdeal.τ).loc Cert.SumsIdeal.main_arg2)
          ∧ r.2.mem ((c.tc : Thread Cert.SumsIdeal.nD Cert.SumsIdeal.τ).loc Cert.SumsIdeal.main_arg3) = m' ((c.tc : Thread Cert.SumsIdeal.nD Cert.SumsIdeal.τ).loc Cert.SumsIdeal.main_arg3)
          ∧ r.2.mem ((c.tc : Thread Cert.SumsIdeal.nD Cert.SumsIdeal.τ).loc Cert.SumsIdeal.main_arg4) = m' ((c.tc : Thread Cert.SumsIdeal.nD Cert.SumsIdeal.τ).loc Cert.SumsIdeal.main_arg4)
          ∧ r.2.mem ((c.tc : Thread Cert.SumsIdeal.nD Cert.SumsIdeal.τ).loc Cert.SumsIdeal.main_arg5) = m' ((c.tc : Thread Cert.SumsIdeal.nD Cert.SumsIdeal.τ).loc Cert.SumsIdeal.main_arg5)
          ∧ r.2.mem ((c.tc : Thread Cert.SumsIdeal.nD Cert.SumsIdeal.τ).loc Cert.SumsIdeal.main_arg6) = m' ((c.tc : Thread Cert.SumsIdeal.nD Cert.SumsIdeal.τ).loc Cert.SumsIdeal.main_arg6)
          ∧ r.2.mem ((c.tc : Thread Cert.SumsIdeal.nD Cert.SumsIdeal.τ).loc Cert.SumsIdeal.main_arg7) = m' ((c.tc : Thread Cert.SumsIdeal.nD Cert.SumsIdeal.τ).loc Cert.SumsIdeal.main_arg7)
          ∧ r.2.mem ((c.tc : Thread Cert.SumsIdeal.nD Cert.SumsIdeal.τ).loc Cert.SumsIdeal.main_arg8) = m' ((c.tc : Thread Cert.SumsIdeal.nD Cert.SumsIdeal.τ).loc Cert.SumsIdeal.main_arg8)
          ∧ r.2.mem ((c.tc : Thread Cert.SumsIdeal.nD Cert.SumsIdeal.τ).loc Cert.SumsIdeal.main_arg9) = m' ((c.tc : Thread Cert.SumsIdeal.nD Cert.SumsIdeal.τ).loc Cert.SumsIdeal.main_arg9)
          ∧ r.2.mem ((c.tc : Thread Cert.SumsIdeal.nD Cert.SumsIdeal.τ).loc Cert.SumsIdeal.main_arg10) = m' ((c.tc : Thread Cert.SumsIdeal.nD Cert.SumsIdeal.τ).loc Cert.SumsIdeal.main_arg10)
          ∧ r.2.mem ((c.tc : Thread Cert.SumsIdeal.nD Cert.SumsIdeal.τ).loc Cert.SumsIdeal.main_arg11) = m' ((c.tc : Thread Cert.SumsIdeal.nD Cert.SumsIdeal.τ).loc Cert.SumsIdeal.main_arg11)
          ∧ r.2.mem ((c.tc : Thread Cert.SumsIdeal.nD Cert.SumsIdeal.τ).loc Cert.SumsIdeal.main_arg12) = m' ((c.tc : Thread Cert.SumsIdeal.nD Cert.SumsIdeal.τ).loc Cert.SumsIdeal.main_arg12)
          ∧ r.2.mem ((c.tc : Thread Cert.SumsIdeal.nD Cert.SumsIdeal.τ).loc Cert.SumsIdeal.main_arg13) = m' ((c.tc : Thread Cert.SumsIdeal.nD Cert.SumsIdeal.τ).loc Cert.SumsIdeal.main_arg13)
          ∧ r.2.mem ((c.tc : Thread Cert.SumsIdeal.nD Cert.SumsIdeal.τ).loc Cert.SumsIdeal.main_arg14) = m' ((c.tc : Thread Cert.SumsIdeal.nD Cert.SumsIdeal.τ).loc Cert.SumsIdeal.main_arg14))

def Claim : Prop :=
  ∃ (hKernel : Cert.Kernel.Facts) (hKernelIdeal : Cert.KernelIdeal.Facts) (hReference : Cert.Reference.Facts) (hReferenceIdeal : Cert.ReferenceIdeal.Facts) (hSumsIdeal : Cert.SumsIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ quiescent_SumsIdeal (hSumsIdeal := hSumsIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ algebraic_KernelIdeal_SumsIdeal (hKernelIdeal := hKernelIdeal) (hSumsIdeal := hSumsIdeal)
-- ==== Kernel.lean ====
abbrev S6400000 : Shape := ⟨1, ![6400000]⟩
abbrev S6400000x3 : Shape := ⟨2, ![6400000, 3]⟩
abbrev S100000 : Shape := ⟨1, ![100000]⟩
abbrev S100000x3 : Shape := ⟨2, ![100000, 3]⟩
abbrev S10x2 : Shape := ⟨2, ![10, 2]⟩
abbrev S10 : Shape := ⟨1, ![10]⟩
abbrev S20x10 : Shape := ⟨2, ![20, 10]⟩
abbrev S20 : Shape := ⟨1, ![20]⟩
abbrev S10x20 : Shape := ⟨2, ![10, 20]⟩
abbrev S5x10 : Shape := ⟨2, ![5, 10]⟩
abbrev S5 : Shape := ⟨1, ![5]⟩
abbrev S1x5 : Shape := ⟨2, ![1, 5]⟩
abbrev S1 : Shape := ⟨1, ![1]⟩
abbrev S_ : Shape := ⟨0, ![]⟩
abbrev S6400000x1 : Shape := ⟨2, ![6400000, 1]⟩
abbrev S1x1 : Shape := ⟨2, ![1, 1]⟩
abbrev S6400000x2 : Shape := ⟨2, ![6400000, 2]⟩
abbrev S2x10 : Shape := ⟨2, ![2, 10]⟩
abbrev S6400000x10 : Shape := ⟨2, ![6400000, 10]⟩
abbrev S1x10 : Shape := ⟨2, ![1, 10]⟩
abbrev S6400000x20 : Shape := ⟨2, ![6400000, 20]⟩
abbrev S1x20 : Shape := ⟨2, ![1, 20]⟩
abbrev S10x5 : Shape := ⟨2, ![10, 5]⟩
abbrev S6400000x5 : Shape := ⟨2, ![6400000, 5]⟩
abbrev S5x1 : Shape := ⟨2, ![5, 1]⟩
abbrev S1000x3 : Shape := ⟨2, ![1000, 3]⟩

abbrev nBuf : Space → Nat
  | .hbm => 123
  | .vmem => 4
  | .smem => 0
  | _ => 0

abbrev bufTy : (tb : Table) → Fin (tcTables nBuf tb) → BufTy
  | .hbm, ⟨0, _⟩ => ⟨S6400000, .f32⟩
  | .hbm, ⟨1, _⟩ => ⟨S6400000x3, .f32⟩
  | .hbm, ⟨2, _⟩ => ⟨S100000, .f32⟩
  | .hbm, ⟨3, _⟩ => ⟨S100000x3, .f32⟩
  | .hbm, ⟨4, _⟩ => ⟨S6400000, .i32⟩
  | .hbm, ⟨5, _⟩ => ⟨S10x2, .f32⟩
  | .hbm, ⟨6, _⟩ => ⟨S10, .f32⟩
  | .hbm, ⟨7, _⟩ => ⟨S20x10, .f32⟩
  | .hbm, ⟨8, _⟩ => ⟨S20, .f32⟩
  | .hbm, ⟨9, _⟩ => ⟨S10x20, .f32⟩
  | .hbm, ⟨10, _⟩ => ⟨S10, .f32⟩
  | .hbm, ⟨11, _⟩ => ⟨S5x10, .f32⟩
  | .hbm, ⟨12, _⟩ => ⟨S5, .f32⟩
  | .hbm, ⟨13, _⟩ => ⟨S1x5, .f32⟩
  | .hbm, ⟨14, _⟩ => ⟨S1, .f32⟩
  | .hbm, ⟨15, _⟩ => ⟨S_, .i32⟩
  | .hbm, ⟨16, _⟩ => ⟨S6400000, .i32⟩
  | .hbm, ⟨17, _⟩ => ⟨S6400000, .i1⟩
  | .hbm, ⟨18, _⟩ => ⟨S_, .i32⟩
  | .hbm, ⟨19, _⟩ => ⟨S6400000, .i32⟩
  | .hbm, ⟨20, _⟩ => ⟨S6400000, .i32⟩
  | .hbm, ⟨21, _⟩ => ⟨S6400000, .i32⟩
  | .hbm, ⟨22, _⟩ => ⟨S6400000x1, .i32⟩
  | .hbm, ⟨23, _⟩ => ⟨S1, .i32⟩
  | .hbm, ⟨24, _⟩ => ⟨S_, .i32⟩
  | .hbm, ⟨25, _⟩ => ⟨S6400000x1, .i32⟩
  | .hbm, ⟨26, _⟩ => ⟨S6400000x1, .i1⟩
  | .hbm, ⟨27, _⟩ => ⟨S1x1, .i32⟩
  | .hbm, ⟨28, _⟩ => ⟨S6400000x1, .i32⟩
  | .hbm, ⟨29, _⟩ => ⟨S6400000x1, .i1⟩
  | .hbm, ⟨30, _⟩ => ⟨S6400000x1, .i1⟩
  | .hbm, ⟨31, _⟩ => ⟨S_, .i1⟩
  | .hbm, ⟨32, _⟩ => ⟨S6400000, .i1⟩
  | .hbm, ⟨33, _⟩ => ⟨S6400000, .f32⟩
  | .hbm, ⟨34, _⟩ => ⟨S_, .f32⟩
  | .hbm, ⟨35, _⟩ => ⟨S6400000, .f32⟩
  | .hbm, ⟨36, _⟩ => ⟨S6400000, .f32⟩
  | .hbm, ⟨37, _⟩ => ⟨S6400000, .f32⟩
  | .hbm, ⟨38, _⟩ => ⟨S6400000, .f32⟩
  | .hbm, ⟨39, _⟩ => ⟨S_, .i32⟩
  | .hbm, ⟨40, _⟩ => ⟨S6400000, .i32⟩
  | .hbm, ⟨41, _⟩ => ⟨S6400000, .i1⟩
  | .hbm, ⟨42, _⟩ => ⟨S_, .i32⟩
  | .hbm, ⟨43, _⟩ => ⟨S6400000, .i32⟩
  | .hbm, ⟨44, _⟩ => ⟨S6400000, .i32⟩
  | .hbm, ⟨45, _⟩ => ⟨S6400000, .i32⟩
  | .hbm, ⟨46, _⟩ => ⟨S6400000x1, .i32⟩
  | .hbm, ⟨47, _⟩ => ⟨S1, .i32⟩
  | .hbm, ⟨48, _⟩ => ⟨S_, .i32⟩
  | .hbm, ⟨49, _⟩ => ⟨S6400000x1, .i32⟩
  | .hbm, ⟨50, _⟩ => ⟨S6400000x1, .i1⟩
  | .hbm, ⟨51, _⟩ => ⟨S1x1, .i32⟩
  | .hbm, ⟨52, _⟩ => ⟨S6400000x1, .i32⟩
  | .hbm, ⟨53, _⟩ => ⟨S6400000x1, .i1⟩
  | .hbm, ⟨54, _⟩ => ⟨S6400000x1, .i1⟩
  | .hbm, ⟨55, _⟩ => ⟨S_, .i1⟩
  | .hbm, ⟨56, _⟩ => ⟨S6400000, .i1⟩
  | .hbm, ⟨57, _⟩ => ⟨S6400000x3, .f32⟩
  | .hbm, ⟨58, _⟩ => ⟨S6400000x3, .i1⟩
  | .hbm, ⟨59, _⟩ => ⟨S_, .f32⟩
  | .hbm, ⟨60, _⟩ => ⟨S6400000x3, .f32⟩
  | .hbm, ⟨61, _⟩ => ⟨S6400000x3, .f32⟩
  | .hbm, ⟨62, _⟩ => ⟨S6400000x3, .f32⟩
  | .hbm, ⟨63, _⟩ => ⟨S6400000x3, .f32⟩
  | .hbm, ⟨64, _⟩ => ⟨S_, .f32⟩
  | .hbm, ⟨65, _⟩ => ⟨S6400000, .f32⟩
  | .hbm, ⟨66, _⟩ => ⟨S6400000x1, .f32⟩
  | .hbm, ⟨67, _⟩ => ⟨S6400000x1, .f32⟩
  | .hbm, ⟨68, _⟩ => ⟨S6400000x2, .f32⟩
  | .hbm, ⟨69, _⟩ => ⟨S2x10, .f32⟩
  | .hbm, ⟨70, _⟩ => ⟨S6400000x10, .f32⟩
  | .hbm, ⟨71, _⟩ => ⟨S1x10, .f32⟩
  | .hbm, ⟨72, _⟩ => ⟨S6400000x10, .f32⟩
  | .hbm, ⟨73, _⟩ => ⟨S6400000x10, .f32⟩
  | .hbm, ⟨74, _⟩ => ⟨S_, .f32⟩
  | .hbm, ⟨75, _⟩ => ⟨S6400000x10, .f32⟩
  | .hbm, ⟨76, _⟩ => ⟨S6400000x10, .f32⟩
  | .hbm, ⟨77, _⟩ => ⟨S10x20, .f32⟩
  | .hbm, ⟨78, _⟩ => ⟨S6400000x20, .f32⟩
  | .hbm, ⟨79, _⟩ => ⟨S1x20, .f32⟩
  | .hbm, ⟨80, _⟩ => ⟨S6400000x20, .f32⟩
  | .hbm, ⟨81, _⟩ => ⟨S6400000x20, .f32⟩
  | .hbm, ⟨82, _⟩ => ⟨S_, .f32⟩
  | .hbm, ⟨83, _⟩ => ⟨S6400000x20, .f32⟩
  | .hbm, ⟨84, _⟩ => ⟨S6400000x20, .f32⟩
  | .hbm, ⟨85, _⟩ => ⟨S20x10, .f32⟩
  | .hbm, ⟨86, _⟩ => ⟨S6400000x10, .f32⟩
  | .hbm, ⟨87, _⟩ => ⟨S1x10, .f32⟩
  | .hbm, ⟨88, _⟩ => ⟨S6400000x10, .f32⟩
  | .hbm, ⟨89, _⟩ => ⟨S6400000x10, .f32⟩
  | .hbm, ⟨90, _⟩ => ⟨S_, .f32⟩
  | .hbm, ⟨91, _⟩ => ⟨S6400000x10, .f32⟩
  | .hbm, ⟨92, _⟩ => ⟨S6400000x10, .f32⟩
  | .hbm, ⟨93, _⟩ => ⟨S10x5, .f32⟩
  | .hbm, ⟨94, _⟩ => ⟨S6400000x5, .f32⟩
  | .hbm, ⟨95, _⟩ => ⟨S1x5, .f32⟩
  | .hbm, ⟨96, _⟩ => ⟨S6400000x5, .f32⟩
  | .hbm, ⟨97, _⟩ => ⟨S6400000x5, .f32⟩
  | .hbm, ⟨98, _⟩ => ⟨S_, .f32⟩
  | .hbm, ⟨99, _⟩ => ⟨S6400000x5, .f32⟩
  | .hbm, ⟨100, _⟩ => ⟨S6400000x5, .f32⟩
  | .hbm, ⟨101, _⟩ => ⟨S5x1, .f32⟩
  | .hbm, ⟨102, _⟩ => ⟨S6400000x1, .f32⟩
  | .hbm, ⟨103, _⟩ => ⟨S1x1, .f32⟩
  | .hbm, ⟨104, _⟩ => ⟨S6400000x1, .f32⟩
  | .hbm, ⟨105, _⟩ => ⟨S6400000x1, .f32⟩
  | .hbm, ⟨106, _⟩ => ⟨S6400000x3, .f32⟩
  | .hbm, ⟨107, _⟩ => ⟨S_, .f32⟩
  | .hbm, ⟨108, _⟩ => ⟨S6400000, .f32⟩
  | .hbm, ⟨109, _⟩ => ⟨S6400000x1, .f32⟩
  | .hbm, ⟨110, _⟩ => ⟨S6400000x1, .f32⟩
  | .hbm, ⟨111, _⟩ => ⟨S_, .f32⟩
  | .hbm, ⟨112, _⟩ => ⟨S6400000x1, .f32⟩
  | .hbm, ⟨113, _⟩ => ⟨S6400000x1, .f32⟩
  | .hbm, ⟨114, _⟩ => ⟨S6400000x3, .f32⟩
  | .hbm, ⟨115, _⟩ => ⟨S6400000x3, .f32⟩
  | .hbm, ⟨116, _⟩ => ⟨S6400000x3, .f32⟩
  | .hbm, ⟨117, _⟩ => ⟨S6400000x3, .f32⟩
  | .hbm, ⟨118, _⟩ => ⟨S_, .f32⟩
  | .hbm, ⟨119, _⟩ => ⟨S100000x3, .f32⟩
  | .hbm, ⟨120, _⟩ => ⟨S6400000x1, .i32⟩
  | .hbm, ⟨121, _⟩ => ⟨S100000x3, .f32⟩
  | .hbm, ⟨122, _⟩ => ⟨S100000x3, .f32⟩
  | .local _ .vmem, ⟨0, _⟩ => ⟨S1000x3, .f32⟩
  | .local _ .vmem, ⟨1, _⟩ => ⟨S1000x3, .f32⟩
  | .local _ .vmem, ⟨2, _⟩ => ⟨S1000x3, .f32⟩
  | .local _ .vmem, ⟨3, _⟩ => ⟨S1000x3, .f32⟩
  | _, _ => ⟨S6400000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v3 : Ref sig .tc := ⟨.hbm, 61, rfl⟩
abbrev main_v4 : Ref sig .tc := ⟨.hbm, 62, rfl⟩
abbrev main_v5 : Ref sig .tc := ⟨.hbm, 63, rfl⟩
abbrev main_cst : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_call2_cst : Ref sig .tc := ⟨.hbm, 74, rfl⟩
abbrev main_call2_v0 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_call3_cst : Ref sig .tc := ⟨.hbm, 82, rfl⟩
abbrev main_call3_v0 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_call4_cst : Ref sig .tc := ⟨.hbm, 90, rfl⟩
abbrev main_call4_v0 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_call5_cst : Ref sig .tc := ⟨.hbm, 98, rfl⟩
abbrev main_call5_v0 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_call6_v0 : Ref sig .tc := ⟨.hbm, 106, rfl⟩
abbrev main_call6_cst : Ref sig .tc := ⟨.hbm, 107, rfl⟩
abbrev main_call6_v1 : Ref sig .tc := ⟨.hbm, 108, rfl⟩
abbrev main_call6_v2 : Ref sig .tc := ⟨.hbm, 109, rfl⟩
abbrev main_v39 : Ref sig .tc := ⟨.hbm, 110, rfl⟩
abbrev main_cst_0 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_cst_1 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S6400000 : Shape := ⟨1, ![6400000]⟩
abbrev S6400000x3 : Shape := ⟨2, ![6400000, 3]⟩
abbrev S100000 : Shape := ⟨1, ![100000]⟩
abbrev S100000x3 : Shape := ⟨2, ![100000, 3]⟩
abbrev S10x2 : Shape := ⟨2, ![10, 2]⟩
abbrev S10 : Shape := ⟨1, ![10]⟩
abbrev S20x10 : Shape := ⟨2, ![20, 10]⟩
abbrev S20 : Shape := ⟨1, ![20]⟩
abbrev S10x20 : Shape := ⟨2, ![10, 20]⟩
abbrev S5x10 : Shape := ⟨2, ![5, 10]⟩
abbrev S5 : Shape := ⟨1, ![5]⟩
abbrev S1x5 : Shape := ⟨2, ![1, 5]⟩
abbrev S1 : Shape := ⟨1, ![1]⟩
abbrev S_ : Shape := ⟨0, ![]⟩
abbrev S6400000x1 : Shape := ⟨2, ![6400000, 1]⟩
abbrev S1x1 : Shape := ⟨2, ![1, 1]⟩
abbrev S6400000x2 : Shape := ⟨2, ![6400000, 2]⟩
abbrev S2x10 : Shape := ⟨2, ![2, 10]⟩
abbrev S6400000x10 : Shape := ⟨2, ![6400000, 10]⟩
abbrev S1x10 : Shape := ⟨2, ![1, 10]⟩
abbrev S6400000x20 : Shape := ⟨2, ![6400000, 20]⟩
abbrev S1x20 : Shape := ⟨2, ![1, 20]⟩
abbrev S10x5 : Shape := ⟨2, ![10, 5]⟩
abbrev S6400000x5 : Shape := ⟨2, ![6400000, 5]⟩
abbrev S5x1 : Shape := ⟨2, ![5, 1]⟩

abbrev nBuf : Space → Nat
  | .hbm => 122
  | .vmem => 0
  | .smem => 0
  | _ => 0

abbrev bufTy : (tb : Table) → Fin (tcTables nBuf tb) → BufTy
  | .hbm, ⟨0, _⟩ => ⟨S6400000, .f32⟩
  | .hbm, ⟨1, _⟩ => ⟨S6400000x3, .f32⟩
  | .hbm, ⟨2, _⟩ => ⟨S100000, .f32⟩
  | .hbm, ⟨3, _⟩ => ⟨S100000x3, .f32⟩
  | .hbm, ⟨4, _⟩ => ⟨S6400000, .i32⟩
  | .hbm, ⟨5, _⟩ => ⟨S10x2, .f32⟩
  | .hbm, ⟨6, _⟩ => ⟨S10, .f32⟩
  | .hbm, ⟨7, _⟩ => ⟨S20x10, .f32⟩
  | .hbm, ⟨8, _⟩ => ⟨S20, .f32⟩
  | .hbm, ⟨9, _⟩ => ⟨S10x20, .f32⟩
  | .hbm, ⟨10, _⟩ => ⟨S10, .f32⟩
  | .hbm, ⟨11, _⟩ => ⟨S5x10, .f32⟩
  | .hbm, ⟨12, _⟩ => ⟨S5, .f32⟩
  | .hbm, ⟨13, _⟩ => ⟨S1x5, .f32⟩
  | .hbm, ⟨14, _⟩ => ⟨S1, .f32⟩
  | .hbm, ⟨15, _⟩ => ⟨S_, .i32⟩
  | .hbm, ⟨16, _⟩ => ⟨S6400000, .i32⟩
  | .hbm, ⟨17, _⟩ => ⟨S6400000, .i1⟩
  | .hbm, ⟨18, _⟩ => ⟨S_, .i32⟩
  | .hbm, ⟨19, _⟩ => ⟨S6400000, .i32⟩
  | .hbm, ⟨20, _⟩ => ⟨S6400000, .i32⟩
  | .hbm, ⟨21, _⟩ => ⟨S6400000, .i32⟩
  | .hbm, ⟨22, _⟩ => ⟨S6400000x1, .i32⟩
  | .hbm, ⟨23, _⟩ => ⟨S1, .i32⟩
  | .hbm, ⟨24, _⟩ => ⟨S_, .i32⟩
  | .hbm, ⟨25, _⟩ => ⟨S6400000x1, .i32⟩
  | .hbm, ⟨26, _⟩ => ⟨S6400000x1, .i1⟩
  | .hbm, ⟨27, _⟩ => ⟨S1x1, .i32⟩
  | .hbm, ⟨28, _⟩ => ⟨S6400000x1, .i32⟩
  | .hbm, ⟨29, _⟩ => ⟨S6400000x1, .i1⟩
  | .hbm, ⟨30, _⟩ => ⟨S6400000x1, .i1⟩
  | .hbm, ⟨31, _⟩ => ⟨S_, .i1⟩
  | .hbm, ⟨32, _⟩ => ⟨S6400000, .i1⟩
  | .hbm, ⟨33, _⟩ => ⟨S6400000, .f32⟩
  | .hbm, ⟨34, _⟩ => ⟨S_, .f32⟩
  | .hbm, ⟨35, _⟩ => ⟨S6400000, .f32⟩
  | .hbm, ⟨36, _⟩ => ⟨S6400000, .f32⟩
  | .hbm, ⟨37, _⟩ => ⟨S6400000, .f32⟩
  | .hbm, ⟨38, _⟩ => ⟨S6400000, .f32⟩
  | .hbm, ⟨39, _⟩ => ⟨S_, .i32⟩
  | .hbm, ⟨40, _⟩ => ⟨S6400000, .i32⟩
  | .hbm, ⟨41, _⟩ => ⟨S6400000, .i1⟩
  | .hbm, ⟨42, _⟩ => ⟨S_, .i32⟩
  | .hbm, ⟨43, _⟩ => ⟨S6400000, .i32⟩
  | .hbm, ⟨44, _⟩ => ⟨S6400000, .i32⟩
  | .hbm, ⟨45, _⟩ => ⟨S6400000, .i32⟩
  | .hbm, ⟨46, _⟩ => ⟨S6400000x1, .i32⟩
  | .hbm, ⟨47, _⟩ => ⟨S1, .i32⟩
  | .hbm, ⟨48, _⟩ => ⟨S_, .i32⟩
  | .hbm, ⟨49, _⟩ => ⟨S6400000x1, .i32⟩
  | .hbm, ⟨50, _⟩ => ⟨S6400000x1, .i1⟩
  | .hbm, ⟨51, _⟩ => ⟨S1x1, .i32⟩
  | .hbm, ⟨52, _⟩ => ⟨S6400000x1, .i32⟩
  | .hbm, ⟨53, _⟩ => ⟨S6400000x1, .i1⟩
  | .hbm, ⟨54, _⟩ => ⟨S6400000x1, .i1⟩
  | .hbm, ⟨55, _⟩ => ⟨S_, .i1⟩
  | .hbm, ⟨56, _⟩ => ⟨S6400000, .i1⟩
  | .hbm, ⟨57, _⟩ => ⟨S6400000x3, .f32⟩
  | .hbm, ⟨58, _⟩ => ⟨S6400000x3, .i1⟩
  | .hbm, ⟨59, _⟩ => ⟨S_, .f32⟩
  | .hbm, ⟨60, _⟩ => ⟨S6400000x3, .f32⟩
  | .hbm, ⟨61, _⟩ => ⟨S6400000x3, .f32⟩
  | .hbm, ⟨62, _⟩ => ⟨S6400000x3, .f32⟩
  | .hbm, ⟨63, _⟩ => ⟨S6400000x3, .f32⟩
  | .hbm, ⟨64, _⟩ => ⟨S_, .f32⟩
  | .hbm, ⟨65, _⟩ => ⟨S6400000, .f32⟩
  | .hbm, ⟨66, _⟩ => ⟨S6400000x1, .f32⟩
  | .hbm, ⟨67, _⟩ => ⟨S6400000x1, .f32⟩
  | .hbm, ⟨68, _⟩ => ⟨S6400000x2, .f32⟩
  | .hbm, ⟨69, _⟩ => ⟨S2x10, .f32⟩
  | .hbm, ⟨70, _⟩ => ⟨S6400000x10, .f32⟩
  | .hbm, ⟨71, _⟩ => ⟨S1x10, .f32⟩
  | .hbm, ⟨72, _⟩ => ⟨S6400000x10, .f32⟩
  | .hbm, ⟨73, _⟩ => ⟨S6400000x10, .f32⟩
  | .hbm, ⟨74, _⟩ => ⟨S_, .f32⟩
  | .hbm, ⟨75, _⟩ => ⟨S6400000x10, .f32⟩
  | .hbm, ⟨76, _⟩ => ⟨S6400000x10, .f32⟩
  | .hbm, ⟨77, _⟩ => ⟨S10x20, .f32⟩
  | .hbm, ⟨78, _⟩ => ⟨S6400000x20, .f32⟩
  | .hbm, ⟨79, _⟩ => ⟨S1x20, .f32⟩
  | .hbm, ⟨80, _⟩ => ⟨S6400000x20, .f32⟩
  | .hbm, ⟨81, _⟩ => ⟨S6400000x20, .f32⟩
  | .hbm, ⟨82, _⟩ => ⟨S_, .f32⟩
  | .hbm, ⟨83, _⟩ => ⟨S6400000x20, .f32⟩
  | .hbm, ⟨84, _⟩ => ⟨S6400000x20, .f32⟩
  | .hbm, ⟨85, _⟩ => ⟨S20x10, .f32⟩
  | .hbm, ⟨86, _⟩ => ⟨S6400000x10, .f32⟩
  | .hbm, ⟨87, _⟩ => ⟨S1x10, .f32⟩
  | .hbm, ⟨88, _⟩ => ⟨S6400000x10, .f32⟩
  | .hbm, ⟨89, _⟩ => ⟨S6400000x10, .f32⟩
  | .hbm, ⟨90, _⟩ => ⟨S_, .f32⟩
  | .hbm, ⟨91, _⟩ => ⟨S6400000x10, .f32⟩
  | .hbm, ⟨92, _⟩ => ⟨S6400000x10, .f32⟩
  | .hbm, ⟨93, _⟩ => ⟨S10x5, .f32⟩
  | .hbm, ⟨94, _⟩ => ⟨S6400000x5, .f32⟩
  | .hbm, ⟨95, _⟩ => ⟨S1x5, .f32⟩
  | .hbm, ⟨96, _⟩ => ⟨S6400000x5, .f32⟩
  | .hbm, ⟨97, _⟩ => ⟨S6400000x5, .f32⟩
  | .hbm, ⟨98, _⟩ => ⟨S_, .f32⟩
  | .hbm, ⟨99, _⟩ => ⟨S6400000x5, .f32⟩
  | .hbm, ⟨100, _⟩ => ⟨S6400000x5, .f32⟩
  | .hbm, ⟨101, _⟩ => ⟨S5x1, .f32⟩
  | .hbm, ⟨102, _⟩ => ⟨S6400000x1, .f32⟩
  | .hbm, ⟨103, _⟩ => ⟨S1x1, .f32⟩
  | .hbm, ⟨104, _⟩ => ⟨S6400000x1, .f32⟩
  | .hbm, ⟨105, _⟩ => ⟨S6400000x1, .f32⟩
  | .hbm, ⟨106, _⟩ => ⟨S6400000x3, .f32⟩
  | .hbm, ⟨107, _⟩ => ⟨S_, .f32⟩
  | .hbm, ⟨108, _⟩ => ⟨S6400000, .f32⟩
  | .hbm, ⟨109, _⟩ => ⟨S6400000x1, .f32⟩
  | .hbm, ⟨110, _⟩ => ⟨S6400000x1, .f32⟩
  | .hbm, ⟨111, _⟩ => ⟨S_, .f32⟩
  | .hbm, ⟨112, _⟩ => ⟨S6400000x1, .f32⟩
  | .hbm, ⟨113, _⟩ => ⟨S6400000x1, .f32⟩
  | .hbm, ⟨114, _⟩ => ⟨S6400000x3, .f32⟩
  | .hbm, ⟨115, _⟩ => ⟨S6400000x3, .f32⟩
  | .hbm, ⟨116, _⟩ => ⟨S6400000x3, .f32⟩
  | .hbm, ⟨117, _⟩ => ⟨S6400000x3, .f32⟩
  | .hbm, ⟨118, _⟩ => ⟨S_, .f32⟩
  | .hbm, ⟨119, _⟩ => ⟨S100000x3, .f32⟩
  | .hbm, ⟨120, _⟩ => ⟨S6400000x1, .i32⟩
  | .hbm, ⟨121, _⟩ => ⟨S100000x3, .f32⟩
  | _, _ => ⟨S6400000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v3 : Ref sig .tc := ⟨.hbm, 61, rfl⟩
abbrev main_v4 : Ref sig .tc := ⟨.hbm, 62, rfl⟩
abbrev main_v5 : Ref sig .tc := ⟨.hbm, 63, rfl⟩
abbrev main_cst : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_call2_cst : Ref sig .tc := ⟨.hbm, 74, rfl⟩
abbrev main_call2_v0 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_call3_cst : Ref sig .tc := ⟨.hbm, 82, rfl⟩
abbrev main_call3_v0 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_call4_cst : Ref sig .tc := ⟨.hbm, 90, rfl⟩
abbrev main_call4_v0 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_call5_cst : Ref sig .tc := ⟨.hbm, 98, rfl⟩
abbrev main_call5_v0 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_call6_v0 : Ref sig .tc := ⟨.hbm, 106, rfl⟩
abbrev main_call6_cst : Ref sig .tc := ⟨.hbm, 107, rfl⟩
abbrev main_call6_v1 : Ref sig .tc := ⟨.hbm, 108, rfl⟩
abbrev main_call6_v2 : Ref sig .tc := ⟨.hbm, 109, rfl⟩
abbrev main_v39 : Ref sig .tc := ⟨.hbm, 110, rfl⟩
abbrev main_cst_0 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_cst_1 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩

abbrev nD : Nat := 1
abbrev τ : Topo := Topo.v7x

variable {F : FTy → Type} [FloatOps F]
-- ==== SumsIdeal.lean ====
abbrev S6400000 : Shape := ⟨1, ![6400000]⟩
abbrev S6400000x3 : Shape := ⟨2, ![6400000, 3]⟩
abbrev S100000 : Shape := ⟨1, ![100000]⟩
abbrev S100000x3 : Shape := ⟨2, ![100000, 3]⟩
abbrev S10x2 : Shape := ⟨2, ![10, 2]⟩
abbrev S10 : Shape := ⟨1, ![10]⟩
abbrev S20x10 : Shape := ⟨2, ![20, 10]⟩
abbrev S20 : Shape := ⟨1, ![20]⟩
abbrev S10x20 : Shape := ⟨2, ![10, 20]⟩
abbrev S5x10 : Shape := ⟨2, ![5, 10]⟩
abbrev S5 : Shape := ⟨1, ![5]⟩
abbrev S1x5 : Shape := ⟨2, ![1, 5]⟩
abbrev S1 : Shape := ⟨1, ![1]⟩
abbrev S_ : Shape := ⟨0, ![]⟩
abbrev S6400000x1 : Shape := ⟨2, ![6400000, 1]⟩
abbrev S1x1 : Shape := ⟨2, ![1, 1]⟩
abbrev S10x1 : Shape := ⟨2, ![10, 1]⟩
abbrev S1x10 : Shape := ⟨2, ![1, 10]⟩
abbrev S6400000x10 : Shape := ⟨2, ![6400000, 10]⟩
abbrev S6400000x1x10 : Shape := ⟨3, ![6400000, 1, 10]⟩
abbrev S1x20x10 : Shape := ⟨3, ![1, 20, 10]⟩
abbrev S6400000x20x10 : Shape := ⟨3, ![6400000, 20, 10]⟩
abbrev S6400000x20 : Shape := ⟨2, ![6400000, 20]⟩
abbrev S1x20 : Shape := ⟨2, ![1, 20]⟩
abbrev S6400000x1x20 : Shape := ⟨3, ![6400000, 1, 20]⟩
abbrev S1x10x20 : Shape := ⟨3, ![1, 10, 20]⟩
abbrev S6400000x10x20 : Shape := ⟨3, ![6400000, 10, 20]⟩
abbrev S1x5x10 : Shape := ⟨3, ![1, 5, 10]⟩
abbrev S6400000x5x10 : Shape := ⟨3, ![6400000, 5, 10]⟩
abbrev S6400000x5 : Shape := ⟨2, ![6400000, 5]⟩
abbrev S100000x1 : Shape := ⟨2, ![100000, 1]⟩
abbrev S1x6400000 : Shape := ⟨2, ![1, 6400000]⟩
abbrev S100000x6400000 : Shape := ⟨2, ![100000, 6400000]⟩
abbrev S100000x6400000x1 : Shape := ⟨3, ![100000, 6400000, 1]⟩
abbrev S100000x6400000x3 : Shape := ⟨3, ![100000, 6400000, 3]⟩

abbrev nBuf : Space → Nat
  | .hbm => 160
  | .vmem => 0
  | .smem => 0
  | _ => 0

abbrev hbmTy0_0 (i : Nat) : BufTy := match i % 128 with
  | 0 => ⟨S6400000, .f32⟩
  | 1 => ⟨S6400000x3, .f32⟩
  | 2 => ⟨S100000, .f32⟩
  | 3 => ⟨S100000x3, .f32⟩
  | 4 => ⟨S6400000, .i32⟩
  | 5 => ⟨S10x2, .f32⟩
  | 6 => ⟨S10, .f32⟩
  | 7 => ⟨S20x10, .f32⟩
  | 8 => ⟨S20, .f32⟩
  | 9 => ⟨S10x20, .f32⟩
  | 10 => ⟨S10, .f32⟩
  | 11 => ⟨S5x10, .f32⟩
  | 12 => ⟨S5, .f32⟩
  | 13 => ⟨S1x5, .f32⟩
  | 14 => ⟨S1, .f32⟩
  | 15 => ⟨S_, .i32⟩
  | 16 => ⟨S6400000, .i32⟩
  | 17 => ⟨S6400000, .i1⟩
  | 18 => ⟨S_, .i32⟩
  | 19 => ⟨S6400000, .i32⟩
  | 20 => ⟨S6400000, .i32⟩
  | 21 => ⟨S6400000, .i32⟩
  | 22 => ⟨S6400000x1, .i32⟩
  | 23 => ⟨S1, .i32⟩
  | 24 => ⟨S_, .i32⟩
  | 25 => ⟨S6400000x1, .i32⟩
  | 26 => ⟨S6400000x1, .i1⟩
  | 27 => ⟨S1x1, .i32⟩
  | 28 => ⟨S6400000x1, .i32⟩
  | 29 => ⟨S6400000x1, .i1⟩
  | 30 => ⟨S6400000x1, .i1⟩
  | 31 => ⟨S_, .i1⟩
  | 32 => ⟨S6400000, .i1⟩
  | 33 => ⟨S6400000, .f32⟩
  | 34 => ⟨S_, .f32⟩
  | 35 => ⟨S6400000, .f32⟩
  | 36 => ⟨S6400000, .f32⟩
  | 37 => ⟨S6400000, .f32⟩
  | 38 => ⟨S6400000, .f32⟩
  | 39 => ⟨S_, .i32⟩
  | 40 => ⟨S6400000, .i32⟩
  | 41 => ⟨S6400000, .i1⟩
  | 42 => ⟨S_, .i32⟩
  | 43 => ⟨S6400000, .i32⟩
  | 44 => ⟨S6400000, .i32⟩
  | 45 => ⟨S6400000, .i32⟩
  | 46 => ⟨S6400000x1, .i32⟩
  | 47 => ⟨S1, .i32⟩
  | 48 => ⟨S_, .i32⟩
  | 49 => ⟨S6400000x1, .i32⟩
  | 50 => ⟨S6400000x1, .i1⟩
  | 51 => ⟨S1x1, .i32⟩
  | 52 => ⟨S6400000x1, .i32⟩
  | 53 => ⟨S6400000x1, .i1⟩
  | 54 => ⟨S6400000x1, .i1⟩
  | 55 => ⟨S_, .i1⟩
  | 56 => ⟨S6400000, .i1⟩
  | 57 => ⟨S6400000x3, .f32⟩
  | 58 => ⟨S6400000x3, .i1⟩
  | 59 => ⟨S_, .f32⟩
  | 60 => ⟨S6400000x3, .f32⟩
  | 61 => ⟨S6400000x3, .f32⟩
  | 62 => ⟨S6400000x3, .f32⟩
  | 63 => ⟨S6400000x3, .f32⟩
  | 64 => ⟨S_, .f32⟩
  | 65 => ⟨S6400000, .f32⟩
  | 66 => ⟨S6400000x1, .f32⟩
  | 67 => ⟨S10x1, .f32⟩
  | 68 => ⟨S10, .f32⟩
  | 69 => ⟨S1x10, .f32⟩
  | 70 => ⟨S6400000x10, .f32⟩
  | 71 => ⟨S6400000x10, .f32⟩
  | 72 => ⟨S6400000x10, .f32⟩
  | 73 => ⟨S6400000x1, .f32⟩
  | 74 => ⟨S10x1, .f32⟩
  | 75 => ⟨S10, .f32⟩
  | 76 => ⟨S1x10, .f32⟩
  | 77 => ⟨S6400000x10, .f32⟩
  | 78 => ⟨S6400000x10, .f32⟩
  | 79 => ⟨S6400000x10, .f32⟩
  | 80 => ⟨S6400000x10, .f32⟩
  | 81 => ⟨S1x10, .f32⟩
  | 82 => ⟨S6400000x10, .f32⟩
  | 83 => ⟨S6400000x10, .f32⟩
  | 84 => ⟨S_, .f32⟩
  | 85 => ⟨S6400000x10, .f32⟩
  | 86 => ⟨S6400000x10, .f32⟩
  | 87 => ⟨S6400000x1x10, .f32⟩
  | 88 => ⟨S1x20x10, .f32⟩
  | 89 => ⟨S6400000x20x10, .f32⟩
  | 90 => ⟨S6400000x20x10, .f32⟩
  | 91 => ⟨S6400000x20x10, .f32⟩
  | 92 => ⟨S_, .f32⟩
  | 93 => ⟨S6400000x20, .f32⟩
  | 94 => ⟨S1x20, .f32⟩
  | 95 => ⟨S6400000x20, .f32⟩
  | 96 => ⟨S6400000x20, .f32⟩
  | 97 => ⟨S_, .f32⟩
  | 98 => ⟨S6400000x20, .f32⟩
  | 99 => ⟨S6400000x20, .f32⟩
  | 100 => ⟨S6400000x1x20, .f32⟩
  | 101 => ⟨S1x10x20, .f32⟩
  | 102 => ⟨S6400000x10x20, .f32⟩
  | 103 => ⟨S6400000x10x20, .f32⟩
  | 104 => ⟨S6400000x10x20, .f32⟩
  | 105 => ⟨S_, .f32⟩
  | 106 => ⟨S6400000x10, .f32⟩
  | 107 => ⟨S1x10, .f32⟩
  | 108 => ⟨S6400000x10, .f32⟩
  | 109 => ⟨S6400000x10, .f32⟩
  | 110 => ⟨S_, .f32⟩
  | 111 => ⟨S6400000x10, .f32⟩
  | 112 => ⟨S6400000x10, .f32⟩
  | 113 => ⟨S6400000x1x10, .f32⟩
  | 114 => ⟨S1x5x10, .f32⟩
  | 115 => ⟨S6400000x5x10, .f32⟩
  | 116 => ⟨S6400000x5x10, .f32⟩
  | 117 => ⟨S6400000x5x10, .f32⟩
  | 118 => ⟨S_, .f32⟩
  | 119 => ⟨S6400000x5, .f32⟩
  | 120 => ⟨S1x5, .f32⟩
  | 121 => ⟨S6400000x5, .f32⟩
  | 122 => ⟨S6400000x5, .f32⟩
  | 123 => ⟨S_, .f32⟩
  | 124 => ⟨S6400000x5, .f32⟩
  | 125 => ⟨S6400000x5, .f32⟩
  | 126 => ⟨S5, .f32⟩
  | 127 => ⟨S1x5, .f32⟩
  | _ => ⟨S6400000, .f32⟩

abbrev hbmTy0_1 (i : Nat) : BufTy := match i % 128 with
  | 0 => ⟨S6400000x5, .f32⟩
  | 1 => ⟨S6400000x5, .f32⟩
  | 2 => ⟨S_, .f32⟩
  | 3 => ⟨S6400000, .f32⟩
  | 4 => ⟨S_, .f32⟩
  | 5 => ⟨S6400000, .f32⟩
  | 6 => ⟨S6400000, .f32⟩
  | 7 => ⟨S6400000, .f32⟩
  | 8 => ⟨S_, .f32⟩
  | 9 => ⟨S6400000, .f32⟩
  | 10 => ⟨S6400000, .f32⟩
  | 11 => ⟨S6400000x1, .f32⟩
  | 12 => ⟨S6400000x3, .f32⟩
  | 13 => ⟨S6400000x3, .f32⟩
  | 14 => ⟨S6400000x1, .f32⟩
  | 15 => ⟨S6400000x3, .f32⟩
  | 16 => ⟨S6400000x3, .f32⟩
  | 17 => ⟨S100000, .i32⟩
  | 18 => ⟨S100000x1, .i32⟩
  | 19 => ⟨S1x6400000, .i32⟩
  | 20 => ⟨S100000x6400000, .i32⟩
  | 21 => ⟨S100000x6400000, .i32⟩
  | 22 => ⟨S100000x6400000, .i1⟩
  | 23 => ⟨S100000x6400000x1, .i1⟩
  | 24 => ⟨S_, .f32⟩
  | 25 => ⟨S_, .f32⟩
  | 26 => ⟨S100000x6400000x3, .i1⟩
  | 27 => ⟨S100000x6400000x3, .f32⟩
  | 28 => ⟨S100000x6400000x3, .f32⟩
  | 29 => ⟨S100000x6400000x3, .f32⟩
  | 30 => ⟨S_, .f32⟩
  | 31 => ⟨S100000x3, .f32⟩
  | _ => ⟨S6400000, .f32⟩

abbrev hbmTy (i : Nat) : BufTy := match i / 128 with
  | 0 => hbmTy0_0 i
  | 1 => hbmTy0_1 i
  | _ => ⟨S6400000, .f32⟩

abbrev bufTy : (tb : Table) → Fin (tcTables nBuf tb) → BufTy
  | .hbm, ⟨i, _⟩ => hbmTy i
  | _, _ => ⟨S6400000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v3 : Ref sig .tc := ⟨.hbm, 61, rfl⟩
abbrev main_v4 : Ref sig .tc := ⟨.hbm, 62, rfl⟩
abbrev main_v5 : Ref sig .tc := ⟨.hbm, 63, rfl⟩
abbrev main_cst : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst_0 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_1 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_cst_2 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_cst_3 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_cst_4 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_cst_5 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_cst_6 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_cst_7 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_cst_8 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_cst_9 : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_call2_v3 : Ref sig .tc := ⟨.hbm, 156, rfl⟩
abbrev main_v84 : Ref sig .tc := ⟨.hbm, 157, rfl⟩
abbrev main_cst_10 : Ref sig .tc := ⟨.hbm, 158, rfl⟩
abbrev main_v85 : Ref sig .tc := ⟨.hbm, 159, rfl⟩

abbrev nD : Nat := 1
abbrev τ : Topo := Topo.v7x

variable {F : FTy → Type} [FloatOps F]
-- ==== Proof.Stages.lean ====
module

public import proofs.«01_k».proof.Proof.Gen.ReferenceIdeal

@[expose] public section

noncomputable section

/-! ## The reference's computation, stage by stage

Each stage of the reference as a function of the arrays it reads, for any float values: the rows taken at the segment
ids, the difference of positions and its squared length, the five linear layers, the messages, and their sum per
segment. The kernel's host operations and the reference compose to `result` of the fifteen arguments. -/

namespace Cert.Stages

open Cert.ReferenceIdeal Cert.ReferenceIdeal.Gen Idealize.ShloMosaic

variable {F : FTy → Type} [FloatOps F]

/-- The segment ids as a column, a negative one moved up by the number of segments. -/
def ids (a4 : Vec F S6400000 .i32) : Vec F S6400000x1 .i32 :=
  broadcastInDim S6400000x1 ![0] bcast_S6400000_S6400000x1_0 (select (cmpi .slt a4 (broadcastInDim S6400000 ![] bcast_S_S6400000 (constantI S_ 32 0#32))) (addi a4 (broadcastInDim S6400000 ![] bcast_S_S6400000 (constantI S_ 32 100000#32))) a4)

/-- Which ids name a row. -/
def inRange (i : Vec F S6400000x1 .i32) : Vec F S6400000 .i1 :=
  Host.reduce IntOp.andi (andi (cmpi .sge i (broadcastInDim S6400000x1 ![] bcast_S_S6400000x1 (constantI S_ 32 0#32))) (cmpi .sle i (broadcastInDim S6400000x1 ![0, 1] bcast_S1x1_S6400000x1_0_1 (broadcastInDim S1x1 ![1] bcast_S1_S1x1_1 (constantI S1 32 99999#32))))) (constantI S_ 1 1#1) reducesTo_S6400000x1_S6400000_d1 h_S_

/-- The time of each edge's segment. -/
def takeT (a2 : Vec F S100000 .f32) (a4 : Vec F S6400000 .i32) : Vec F S6400000 .f32 :=
  select (inRange (ids a4)) (Host.gather gather_S100000_S6400000x1_S6400000_n_0_n_n_0_1_1 a2 (ids a4)) (broadcastInDim S6400000 ![] bcast_S_S6400000 (constant S_ .f32 0x7FC00000#32))

/-- The position of each edge's segment. -/
def takePos (a3 : Vec F S100000x3 .f32) (a4 : Vec F S6400000 .i32) : Vec F S6400000x3 .f32 :=
  select (broadcastInDim S6400000x3 ![0] bcast_S6400000_S6400000x3_0 (inRange (ids a4))) (Host.gather gather_S100000x3_S6400000x1_S6400000x3_1_0_n_n_0_1_13 a3 (ids a4)) (broadcastInDim S6400000x3 ![] bcast_S_S6400000x3 (constant S_ .f32 0x7FC00000#32))

/-- The sign of the difference of times. -/
def sgn (a0 : Vec F S6400000 .f32) (a2 : Vec F S100000 .f32) (a4 : Vec F S6400000 .i32) : Vec F S6400000 .f32 :=
  Host.sign (subf a0 (takeT a2 a4))

/-- The difference of positions. -/
def dpos (a1 : Vec F S6400000x3 .f32) (a3 : Vec F S100000x3 .f32) (a4 : Vec F S6400000 .i32) : Vec F S6400000x3 .f32 :=
  subf a1 (takePos a3 a4)

/-- The squared length of the difference of positions. -/
def sq (d : Vec F S6400000x3 .f32) : Vec F S6400000 .f32 :=
  Host.reduceAdd (mulf d d) (constant S_ .f32 0x00000000#32) reducesTo_S6400000x3_S6400000_d1 h_S_

/-- The length, cut off below, as a column. -/
def cutoff (r : Vec F S6400000 .f32) : Vec F S6400000x1 .f32 :=
  maximumf (Host.sqrt (broadcastInDim S6400000x1 ![0] bcast_S6400000_S6400000x1_0 r)) (broadcastInDim S6400000x1 ![] bcast_S_S6400000x1 (constant S_ .f32 0x2B8CBCCC#32))

/-- Each row over its entry of a column. -/
def over (d : Vec F S6400000x3 .f32) (c : Vec F S6400000x1 .f32) : Vec F S6400000x3 .f32 :=
  Host.divf d (broadcastInDim S6400000x3 ![0, 1] bcast_S6400000x1_S6400000x3_0_1 c)

/-- The two features side by side. -/
def feats (u v : Vec F S6400000 .f32) : Vec F S6400000x2 .f32 :=
  concatenate S6400000x2 1 [⟨S6400000x1, broadcastInDim S6400000x1 ![0] bcast_S6400000_S6400000x1_0 u⟩, ⟨S6400000x1, broadcastInDim S6400000x1 ![0] bcast_S6400000_S6400000x1_0 v⟩] concatenates_S6400000x1_S6400000x1_S6400000x2_d1

/-- Ten outputs: the bias added, the result cut off at zero. -/
def bias10 (a : Vec F S6400000x10 .f32) (b : Vec F S10 .f32) : Vec F S6400000x10 .f32 :=
  maximumf (addf a (broadcastInDim S6400000x10 ![0, 1] bcast_S1x10_S6400000x10_0_1 (broadcastInDim S1x10 ![1] bcast_S10_S1x10_1 b))) (broadcastInDim S6400000x10 ![] bcast_S_S6400000x10 (constant S_ .f32 0x00000000#32))

/-- Twenty outputs, likewise. -/
def bias20 (a : Vec F S6400000x20 .f32) (b : Vec F S20 .f32) : Vec F S6400000x20 .f32 :=
  maximumf (addf a (broadcastInDim S6400000x20 ![0, 1] bcast_S1x20_S6400000x20_0_1 (broadcastInDim S1x20 ![1] bcast_S20_S1x20_1 b))) (broadcastInDim S6400000x20 ![] bcast_S_S6400000x20 (constant S_ .f32 0x00000000#32))

/-- Five outputs, likewise. -/
def bias5 (a : Vec F S6400000x5 .f32) (b : Vec F S5 .f32) : Vec F S6400000x5 .f32 :=
  maximumf (addf a (broadcastInDim S6400000x5 ![0, 1] bcast_S1x5_S6400000x5_0_1 (broadcastInDim S1x5 ![1] bcast_S5_S1x5_1 b))) (broadcastInDim S6400000x5 ![] bcast_S_S6400000x5 (constant S_ .f32 0x00000000#32))

/-- One output: the bias added. -/
def bias1 (a : Vec F S6400000x1 .f32) (b : Vec F S1 .f32) : Vec F S6400000x1 .f32 :=
  addf a (broadcastInDim S6400000x1 ![0, 1] bcast_S1x1_S6400000x1_0_1 (broadcastInDim S1x1 ![1] bcast_S1_S1x1_1 b))

/-- The product with the first layer's weights. -/
def mul1 (x : Vec F S6400000x2 .f32) (w : Vec F S10x2 .f32) : Vec F S6400000x10 .f32 :=
  Host.dotGeneral dot_S6400000x2_S2x10_S6400000x10_1_0_0_1_n_n none x (transpose S2x10 [1, 0] w transposes_S10x2_S2x10_1_0)

/-- The product with the second layer's weights. -/
def mul2 (x : Vec F S6400000x10 .f32) (w : Vec F S20x10 .f32) : Vec F S6400000x20 .f32 :=
  Host.dotGeneral dot_S6400000x10_S10x20_S6400000x20_1_0_0_1_n_n none x (transpose S10x20 [1, 0] w transposes_S20x10_S10x20_1_0)

/-- The product with the third layer's weights. -/
def mul3 (x : Vec F S6400000x20 .f32) (w : Vec F S10x20 .f32) : Vec F S6400000x10 .f32 :=
  Host.dotGeneral dot_S6400000x20_S20x10_S6400000x10_1_0_0_1_n_n none x (transpose S20x10 [1, 0] w transposes_S10x20_S20x10_1_0)

/-- The product with the fourth layer's weights. -/
def mul4 (x : Vec F S6400000x10 .f32) (w : Vec F S5x10 .f32) : Vec F S6400000x5 .f32 :=
  Host.dotGeneral dot_S6400000x10_S10x5_S6400000x5_1_0_0_1_n_n none x (transpose S10x5 [1, 0] w transposes_S5x10_S10x5_1_0)

/-- The product with the fifth layer's weights. -/
def mul5 (x : Vec F S6400000x5 .f32) (w : Vec F S1x5 .f32) : Vec F S6400000x1 .f32 :=
  Host.dotGeneral dot_S6400000x5_S5x1_S6400000x1_1_0_0_1_n_n none x (transpose S5x1 [1, 0] w transposes_S1x5_S5x1_1_0)

/-- The message of each edge: its weight times its direction. -/
def msgs (w : Vec F S6400000x1 .f32) (d : Vec F S6400000x3 .f32) : Vec F S6400000x3 .f32 :=
  mulf (broadcastInDim S6400000x3 ![0, 1] bcast_S6400000x1_S6400000x3_0_1 w) d

/-- The messages added up per segment. -/
def pool (a4 : Vec F S6400000 .i32) (x : Vec F S6400000x3 .f32) : Vec F S100000x3 .f32 :=
  Host.scatterAdd scatter_S100000x3_S6400000x1_S6400000x3_1_0_0_1 (broadcastInDim S100000x3 ![] bcast_S_S100000x3 (constant S_ .f32 0x00000000#32)) (broadcastInDim S6400000x1 ![0] bcast_S6400000_S6400000x1_0 a4) x

/-- The result as a function of the fifteen arguments. -/
def result (a0 : Vec F S6400000 .f32) (a1 : Vec F S6400000x3 .f32) (a2 : Vec F S100000 .f32) (a3 : Vec F S100000x3 .f32)
    (a4 : Vec F S6400000 .i32) (a5 : Vec F S10x2 .f32) (a6 : Vec F S10 .f32) (a7 : Vec F S20x10 .f32) (a8 : Vec F S20 .f32)
    (a9 : Vec F S10x20 .f32) (a10 : Vec F S10 .f32) (a11 : Vec F S5x10 .f32) (a12 : Vec F S5 .f32) (a13 : Vec F S1x5 .f32)
    (a14 : Vec F S1 .f32) : Vec F S100000x3 .f32 :=
  pool a4 (msgs
    (bias1 (mul5 (bias5 (mul4 (bias10 (mul3 (bias20 (mul2 (bias10 (mul1 (feats (sgn a0 a2 a4) (sq (dpos a1 a3 a4))) a5) a6) a7) a8) a9) a10) a11) a12) a13) a14)
    (over (dpos a1 a3 a4) (cutoff (sq (dpos a1 a3 a4)))))

end Cert.Stages

end
-- ==== Proof.KernelIdealValue.lean ====
module

public import proofs.«01_k».proof.Proof.Stages
public import proofs.«01_k».proof.Proof.Gen.KernelIdeal.Value

@[expose] public section

noncomputable section

/-! ## What the kernel leaves in its result array

The kernel's blocks copy the array the host operations computed, so the result array is that array; and that array is
`Stages.result` of the arguments. -/

namespace Cert.KernelIdeal.Whole

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The block's corner, written out, is the zero index. -/
theorem corner_zero : (![0, 0] : Fin 2 → Nat) = fun _ => 0 := funext fun a => by fin_cases a <;> rfl

/-- What the body leaves in the output block: the input block. -/
theorem out_eq (x : Vec F S1000x3 .f32) : out0_1 x = x := by
  rw [out0_1, View.canon_unit_zero corner_zero, k0_pay1, View.ld_unit_zero corner_zero, shapeCast_self]

/-- What grid point `t` writes back is block `t` of the array the region reads. -/
theorem flushed_eq (c : Dev nD) (t : Fin cfg0.N) :
    (dats m 0 c).flushed 1 t = ((cfg0.win 1).blk t).view.read (Elt F) (V m c main_v48) := by
  rw [Value.flushed1, out_eq]
  rfl

/-- Where the block of each grid point starts and how far it reaches (decided over the 100 points). -/
theorem block_at : ∀ t : Fin cfg0.N, win0_1.index t 0 * win0_1.size 0 = t.val * 1000 ∧ win0_1.xsize (grid0.coords t) 0 = 1000
    ∧ win0_1.index t 1 * win0_1.size 1 = 0 ∧ win0_1.xsize (grid0.coords t) 1 = 3 :=
  (by decide +kernel : ∀ t : Fin grid0.N, win0_1.index t 0 * win0_1.size 0 = t.val * 1000 ∧ win0_1.xsize (grid0.coords t) 0 = 1000
    ∧ win0_1.index t 1 * win0_1.size 1 = 0 ∧ win0_1.xsize (grid0.coords t) 1 = 3)

/-- A row from `1000 t` up to the next thousand lies in the block of grid point `t`. -/
theorem mem_block (t : Fin cfg0.N) (i : S100000x3.Idx) (hl : t.val * 1000 ≤ (i 0 : Nat)) (hu : (i 0 : Nat) < t.val * 1000 + 1000) :
    i ∈ ((cfg0.win 1).blk t).view.set := by
  show i ∈ ((View.whole main_v49).slice (win0_1.rect t)).set
  rw [View.set_slice_whole, Rect.mem_set_unit]
  obtain ⟨e1, e2, e3, e4⟩ := block_at t
  have h1 : (i 1 : Nat) < 3 := (i 1).isLt
  intro a
  match a with
  | ⟨0, _⟩ =>
    show win0_1.index t 0 * win0_1.size 0 ≤ (i 0 : Nat) ∧ (i 0 : Nat) < win0_1.index t 0 * win0_1.size 0 + win0_1.xsize (grid0.coords t) 0
    omega
  | ⟨1, _⟩ =>
    show win0_1.index t 1 * win0_1.size 1 ≤ (i 1 : Nat) ∧ (i 1 : Nat) < win0_1.index t 1 * win0_1.size 1 + win0_1.xsize (grid0.coords t) 1
    omega

/-- Row `r` of the result lies in the block of grid point `r / 1000`. -/
theorem cover (i : S100000x3.Idx) :
    ∃ t : Fin cfg0.N, (cfg0.win 1).flush t = true ∧ i ∈ ((cfg0.win 1).blk t).view.set := by
  have h0 : (i 0 : Nat) < 100000 := (i 0).isLt
  have hN : cfg0.N = 100 := N_0
  refine ⟨⟨(i 0 : Nat) / 1000, by omega⟩, flush0_1 _, mem_block _ i ?_ ?_⟩ <;> dsimp only <;> omega

/-- The result array is the array the region reads. -/
theorem final (c : Dev nD) : (dats m 0 c).arrAt 1 cfg0.N = V m c main_v48 :=
  (dats m 0 c).arrAt_eq_of_cover 1 (V m c main_v48) (fun t _ => flushed_eq m c t) cover

/-- Two columns side by side, as a named function of the two columns. -/
def beside : (⟨S6400000x1, .f32⟩ : BufTy).Contents (Elt F) → (⟨S6400000x1, .f32⟩ : BufTy).Contents (Elt F) → (⟨S6400000x2, .f32⟩ : BufTy).Contents (Elt F) :=
  fun a b => concatenate S6400000x2 1 [⟨S6400000x1, a⟩, ⟨S6400000x1, b⟩] concatenates_S6400000x1_S6400000x1_S6400000x2_d1

/-- The host operation that puts two columns side by side is `beside`. -/
theorem beside_fold : (fun (a b : (⟨S6400000x1, .f32⟩ : BufTy).Contents (Elt F)) => (concatenate S6400000x2 1 [⟨S6400000x1, a⟩, ⟨S6400000x1, b⟩] concatenates_S6400000x1_S6400000x1_S6400000x2_d1 : (⟨S6400000x2, .f32⟩ : BufTy).Contents (Elt F))) = beside := rfl

set_option maxRecDepth 16384 in
set_option maxHeartbeats 42800000 in
/-- The array the region reads is `Stages.result` of the arguments. -/
theorem entry_eq (c : Dev nD) : V m c main_v48 =
    Stages.result (F := F) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14)) := by
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq, beside_fold]
  after_results_simp <;> rfl

end Cert.KernelIdeal.Whole

end
-- ==== Proof.ReferenceValue.lean ====
module

public import proofs.«01_k».proof.Proof.Stages
public import proofs.«01_k».proof.Proof.Gen.Reference.Run

@[expose] public section

noncomputable section

/-! ## What the reference's run returns: the stages of the computation, applied to the fifteen arguments -/

namespace Cert.Reference.Whole

open Cert.Reference Cert.Reference.Gen Idealize.ShloMosaic Idealize.ShloMosaic.TcCoe Idealize.SL.Sem

variable {F : FTy → Type} [FloatOps F]
variable (m : (ℓ : Loc nD τ sig) → Buf (Elt F) ℓ)

set_option maxRecDepth 16384 in
set_option maxHeartbeats 4000000 in
/-- The run's result is `Stages.result` of the arguments. -/
theorem result_eq (c : Dev nD) : Value.res_main_v48 m c =
    Stages.result (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) := by
  unfold Value.res_main_v48
  rfl

end Cert.Reference.Whole

end
-- ==== Proof.ReferenceIdealValue.lean ====
module

public import proofs.«01_k».proof.Proof.Stages
public import proofs.«01_k».proof.Proof.Gen.ReferenceIdeal.Run

@[expose] public section

noncomputable section

/-! ## What the reference's run returns: the stages of the computation, applied to the fifteen arguments -/

namespace Cert.ReferenceIdeal.Whole

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ)

set_option maxRecDepth 16384 in
set_option maxHeartbeats 4000000 in
/-- The run's result is `Stages.result` of the arguments. -/
theorem result_eq (c : Dev nD) : Value.res_main_v48 m c =
    Stages.result (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) := by
  unfold Value.res_main_v48
  rfl

end Cert.ReferenceIdeal.Whole

end
-- ==== Proof.Sums.lean ====
module

public import proofs.«01_k».proof.Proof.Stages
public import proofs.«01_k».proof.Proof.Gen.SumsIdeal

@[expose] public section

noncomputable section

/-! ## The computation written as sums, stage by stage

The same computation with each linear layer a sum of products over its inputs and the pooling a sum over all edges of
the messages whose id is the segment. The rows taken, the differences, and the squared length are the stages of
`Stages`. -/

namespace Cert.Sums

open Cert.SumsIdeal Cert.SumsIdeal.Gen Idealize.ShloMosaic

variable {F : FTy → Type} [FloatOps F]

/-- The length, cut off below. -/
def cutoff (r : Vec F S6400000 .f32) : Vec F S6400000 .f32 :=
  maximumf (Host.sqrt r) (broadcastInDim S6400000 ![] bcast_S_S6400000 (constant S_ .f32 0x2B8CBCCC#32))

/-- A line stood up as a column. -/
def col (r : Vec F S6400000 .f32) : Vec F S6400000x1 .f32 :=
  broadcastInDim S6400000x1 ![0] bcast_S6400000_S6400000x1_0 r

/-- The first layer's products: each output the two features times its two weights, added. -/
def mul1 (u v : Vec F S6400000 .f32) (w : Vec F S10x2 .f32) : Vec F S6400000x10 .f32 :=
  addf (mulf (broadcastInDim S6400000x10 ![0, 1] bcast_S6400000x1_S6400000x10_0_1 (broadcastInDim S6400000x1 ![0] bcast_S6400000_S6400000x1_0 u)) (broadcastInDim S6400000x10 ![0, 1] bcast_S1x10_S6400000x10_0_1 (broadcastInDim S1x10 ![1] bcast_S10_S1x10_1 (shapeCast S10 (extractStridedSlice S10x1 ![0, 0] w slices_S10x2_S10x1_0_0) shapeCasts_S10x1_S10)))) (mulf (broadcastInDim S6400000x10 ![0, 1] bcast_S6400000x1_S6400000x10_0_1 (broadcastInDim S6400000x1 ![0] bcast_S6400000_S6400000x1_0 v)) (broadcastInDim S6400000x10 ![0, 1] bcast_S1x10_S6400000x10_0_1 (broadcastInDim S1x10 ![1] bcast_S10_S1x10_1 (shapeCast S10 (extractStridedSlice S10x1 ![0, 1] w slices_S10x2_S10x1_0_1) shapeCasts_S10x1_S10))))

/-- The second layer's products, added over its 10 inputs. -/
def mul2 (x : Vec F S6400000x10 .f32) (w : Vec F S20x10 .f32) : Vec F S6400000x20 .f32 :=
  Host.reduceAdd (mulf (broadcastInDim S6400000x20x10 ![0, 1, 2] bcast_S6400000x1x10_S6400000x20x10_0_1_2 (broadcastInDim S6400000x1x10 ![0, 2] bcast_S6400000x10_S6400000x1x10_0_2 x)) (broadcastInDim S6400000x20x10 ![0, 1, 2] bcast_S1x20x10_S6400000x20x10_0_1_2 (broadcastInDim S1x20x10 ![1, 2] bcast_S20x10_S1x20x10_1_2 w))) (constant S_ .f32 0x00000000#32) reducesTo_S6400000x20x10_S6400000x20_d2 h_S_

/-- The third layer's products, added over its 20 inputs. -/
def mul3 (x : Vec F S6400000x20 .f32) (w : Vec F S10x20 .f32) : Vec F S6400000x10 .f32 :=
  Host.reduceAdd (mulf (broadcastInDim S6400000x10x20 ![0, 1, 2] bcast_S6400000x1x20_S6400000x10x20_0_1_2 (broadcastInDim S6400000x1x20 ![0, 2] bcast_S6400000x20_S6400000x1x20_0_2 x)) (broadcastInDim S6400000x10x20 ![0, 1, 2] bcast_S1x10x20_S6400000x10x20_0_1_2 (broadcastInDim S1x10x20 ![1, 2] bcast_S10x20_S1x10x20_1_2 w))) (constant S_ .f32 0x00000000#32) reducesTo_S6400000x10x20_S6400000x10_d2 h_S_

/-- The fourth layer's products, added over its 10 inputs. -/
def mul4 (x : Vec F S6400000x10 .f32) (w : Vec F S5x10 .f32) : Vec F S6400000x5 .f32 :=
  Host.reduceAdd (mulf (broadcastInDim S6400000x5x10 ![0, 1, 2] bcast_S6400000x1x10_S6400000x5x10_0_1_2 (broadcastInDim S6400000x1x10 ![0, 2] bcast_S6400000x10_S6400000x1x10_0_2 x)) (broadcastInDim S6400000x5x10 ![0, 1, 2] bcast_S1x5x10_S6400000x5x10_0_1_2 (broadcastInDim S1x5x10 ![1, 2] bcast_S5x10_S1x5x10_1_2 w))) (constant S_ .f32 0x00000000#32) reducesTo_S6400000x5x10_S6400000x5_d2 h_S_

/-- The fifth layer's products, added over its five inputs. -/
def mul5 (x : Vec F S6400000x5 .f32) (w : Vec F S1x5 .f32) : Vec F S6400000 .f32 :=
  Host.reduceAdd (mulf x (broadcastInDim S6400000x5 ![0, 1] bcast_S1x5_S6400000x5_0_1 (broadcastInDim S1x5 ![1] bcast_S5_S1x5_1 (shapeCast S5 w shapeCasts_S1x5_S5)))) (constant S_ .f32 0x00000000#32) reducesTo_S6400000x5_S6400000_d1 h_S_

/-- One output: the bias added. -/
def bias1 (a : Vec F S6400000 .f32) (b : Vec F S1 .f32) : Vec F S6400000 .f32 :=
  addf a (broadcastInDim S6400000 ![] bcast_S_S6400000 (shapeCast S_ b shapeCasts_S1_S_))

/-- Which segment each edge belongs to: for each segment and edge, whether the edge's id is the segment. -/
def belongs (a4 : Vec F S6400000 .i32) : Vec F S100000x6400000 .i1 :=
  cmpi .eq (broadcastInDim S100000x6400000 ![0, 1] bcast_S1x6400000_S100000x6400000_0_1 (broadcastInDim S1x6400000 ![1] bcast_S6400000_S1x6400000_1 a4)) (broadcastInDim S100000x6400000 ![0, 1] bcast_S100000x1_S100000x6400000_0_1 (broadcastInDim S100000x1 ![0] bcast_S100000_S100000x1_0 (iotaInDim S100000 32 0)))

/-- For each segment and edge, the edge's message where the edge belongs to the segment, zero elsewhere. -/
def masked (z : Vec F S100000x6400000 .i1) (x : Vec F S6400000x3 .f32) : Vec F S100000x6400000x3 .f32 :=
  select (broadcastInDim S100000x6400000x3 ![0, 1, 2] bcast_S100000x6400000x1_S100000x6400000x3_0_1_2 (broadcastInDim S100000x6400000x1 ![0, 1] bcast_S100000x6400000_S100000x6400000x1_0_1 z)) (broadcastInDim S100000x6400000x3 ![1, 2] bcast_S6400000x3_S100000x6400000x3_1_2 x) (broadcastInDim S100000x6400000x3 ![] bcast_S_S100000x6400000x3 (constant S_ .f32 0x00000000#32))

/-- For each segment, the sum over all edges. -/
def total (y : Vec F S100000x6400000x3 .f32) : Vec F S100000x3 .f32 :=
  Host.reduceAdd y (constant S_ .f32 0x00000000#32) reducesTo_S100000x6400000x3_S100000x3_d1 h_S_

/-- The result as a function of the fifteen arguments. -/
def result (a0 : Vec F S6400000 .f32) (a1 : Vec F S6400000x3 .f32) (a2 : Vec F S100000 .f32) (a3 : Vec F S100000x3 .f32)
    (a4 : Vec F S6400000 .i32) (a5 : Vec F S10x2 .f32) (a6 : Vec F S10 .f32) (a7 : Vec F S20x10 .f32) (a8 : Vec F S20 .f32)
    (a9 : Vec F S10x20 .f32) (a10 : Vec F S10 .f32) (a11 : Vec F S5x10 .f32) (a12 : Vec F S5 .f32) (a13 : Vec F S1x5 .f32)
    (a14 : Vec F S1 .f32) : Vec F S100000x3 .f32 :=
  total (masked (belongs a4) (Stages.msgs
    (col (bias1 (mul5 (Stages.bias5 (mul4 (Stages.bias10 (mul3 (Stages.bias20 (mul2 (Stages.bias10 (mul1 (Stages.sgn a0 a2 a4) (Stages.sq (Stages.dpos a1 a3 a4)) a5) a6) a7) a8) a9) a10) a11) a12) a13) a14))
    (Stages.over (Stages.dpos a1 a3 a4) (col (cutoff (Stages.sq (Stages.dpos a1 a3 a4)))))))

end Cert.Sums

end
-- ==== Proof.SumsIdealValue.lean ====
module

public import proofs.«01_k».proof.Proof.Sums
public import proofs.«01_k».proof.Proof.Gen.SumsIdeal.Run

@[expose] public section

noncomputable section

/-! ## What the reference's run returns: the sums written out, applied to the fifteen arguments -/

namespace Cert.SumsIdeal.Whole

open Cert.SumsIdeal Cert.SumsIdeal.Gen Idealize.ShloMosaic Idealize.ShloMosaic.TcCoe Idealize.SL.Sem

variable {F : FTy → Type} [FloatOps F]
variable (m : (ℓ : Loc nD τ sig) → Buf (Elt F) ℓ)

set_option maxRecDepth 16384 in
set_option maxHeartbeats 4000000 in
/-- The run's result is `Sums.result` of the arguments. -/
theorem result_eq (c : Dev nD) : Value.res_main_v85 m c =
    Sums.result (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) := by
  unfold Value.res_main_v85
  rfl

end Cert.SumsIdeal.Whole

end
-- ==== Proof.Layers.lean ====
module

public import proofs.«01_k».proof.Proof.Sums
public import Idealize.ShloMosaic.Lib.Pointwise

@[expose] public section

noncomputable section

/-! ## The linear layers over the extended reals

A matrix product and the sum of products it stands for, index by index; from these, each layer of `Stages` is the layer
of `Sums`. -/

namespace Cert.Layers

open Cert.SumsIdeal Cert.SumsIdeal.Gen Idealize.ShloMosaic

/-- An index of a two-axis array is the pair of its coordinates. -/
theorem pair_ext {a b : Nat} {α : Type} {f g : (⟨2, ![a, b]⟩ : Shape).Idx → α} (h : ∀ (n : Fin a) (o : Fin b), f (ix2 n o) = g (ix2 n o)) :
    f = g := funext fun j => by
  have e : j = ix2 (j 0) (j 1) := funext fun d => match d with | ⟨0, _⟩ => rfl | ⟨1, _⟩ => rfl
  rw [e]; exact h _ _

section
variable (x : FVec Ideal S6400000x10 .f32) (w : FVec Ideal S20x10 .f32) (n : Fin 6400000) (o : Fin 20)

/-- The product with the second layer's weights, at an index. -/
theorem plain2 : (Stages.mul2 (F := Ideal) x w : FVec Ideal S6400000x20 .f32) (ix2 n o) = ∑ k : Fin 10, x (ix2 n k) * w (ix2 o k) := by
  pointwise [Stages.mul2]

/-- The sum of products with the second layer's weights, at an index. -/
theorem sum2 : (Sums.mul2 (F := Ideal) x w : FVec Ideal S6400000x20 .f32) (ix2 n o) = ∑ k : Fin 10, x (ix2 n k) * w (ix2 o k) := by
  pointwise [Sums.mul2]
end

/-- The product with the second layer's weights is its sum of products. -/
theorem mul2_eq (x : FVec Ideal S6400000x10 .f32) (w : FVec Ideal S20x10 .f32) : Stages.mul2 (F := Ideal) x w = Sums.mul2 (F := Ideal) x w :=
  pair_ext fun n o => (plain2 x w n o).trans (sum2 x w n o).symm

section
variable (x : FVec Ideal S6400000x20 .f32) (w : FVec Ideal S10x20 .f32) (n : Fin 6400000) (o : Fin 10)

/-- The product with the third layer's weights, at an index. -/
theorem plain3 : (Stages.mul3 (F := Ideal) x w : FVec Ideal S6400000x10 .f32) (ix2 n o) = ∑ k : Fin 20, x (ix2 n k) * w (ix2 o k) := by
  pointwise [Stages.mul3]

/-- The sum of products with the third layer's weights, at an index. -/
theorem sum3 : (Sums.mul3 (F := Ideal) x w : FVec Ideal S6400000x10 .f32) (ix2 n o) = ∑ k : Fin 20, x (ix2 n k) * w (ix2 o k) := by
  pointwise [Sums.mul3]
end

/-- The product with the third layer's weights is its sum of products. -/
theorem mul3_eq (x : FVec Ideal S6400000x20 .f32) (w : FVec Ideal S10x20 .f32) : Stages.mul3 (F := Ideal) x w = Sums.mul3 (F := Ideal) x w :=
  pair_ext fun n o => (plain3 x w n o).trans (sum3 x w n o).symm

section
variable (x : FVec Ideal S6400000x10 .f32) (w : FVec Ideal S5x10 .f32) (n : Fin 6400000) (o : Fin 5)

/-- The product with the fourth layer's weights, at an index. -/
theorem plain4 : (Stages.mul4 (F := Ideal) x w : FVec Ideal S6400000x5 .f32) (ix2 n o) = ∑ k : Fin 10, x (ix2 n k) * w (ix2 o k) := by
  pointwise [Stages.mul4]

/-- The sum of products with the fourth layer's weights, at an index. -/
theorem sum4 : (Sums.mul4 (F := Ideal) x w : FVec Ideal S6400000x5 .f32) (ix2 n o) = ∑ k : Fin 10, x (ix2 n k) * w (ix2 o k) := by
  pointwise [Sums.mul4]
end

/-- The product with the fourth layer's weights is its sum of products. -/
theorem mul4_eq (x : FVec Ideal S6400000x10 .f32) (w : FVec Ideal S5x10 .f32) : Stages.mul4 (F := Ideal) x w = Sums.mul4 (F := Ideal) x w :=
  pair_ext fun n o => (plain4 x w n o).trans (sum4 x w n o).symm

section
variable (u v : FVec Ideal S6400000 .f32) (w : FVec Ideal S10x2 .f32) (n : Fin 6400000) (o : Fin 10)

/-- The product of the features side by side with the first layer's weights, at an index. -/
theorem plain1 : (Stages.mul1 (F := Ideal) (Stages.feats (F := Ideal) u v) w : FVec Ideal S6400000x10 .f32) (ix2 n o)
    = u (ix1 n) * w (ix2 o (0 : Fin 2)) + v (ix1 n) * w (ix2 o (1 : Fin 2)) := by
  pointwise [Stages.mul1, Stages.feats]
  simp

/-- The two products of features and weights added, at an index. -/
theorem sum1 : (Sums.mul1 (F := Ideal) u v w : FVec Ideal S6400000x10 .f32) (ix2 n o)
    = u (ix1 n) * w (ix2 o (0 : Fin 2)) + v (ix1 n) * w (ix2 o (1 : Fin 2)) := by
  pointwise [Sums.mul1]
end

/-- The product with the first layer's weights is its two products added. -/
theorem mul1_eq (u v : FVec Ideal S6400000 .f32) (w : FVec Ideal S10x2 .f32) :
    Stages.mul1 (F := Ideal) (Stages.feats (F := Ideal) u v) w = Sums.mul1 (F := Ideal) u v w :=
  pair_ext fun n o => (plain1 u v w n o).trans (sum1 u v w n o).symm

section
variable (x : FVec Ideal S6400000x5 .f32) (w : FVec Ideal S1x5 .f32) (b : FVec Ideal S1 .f32) (n : Fin 6400000) (o : Fin 1)

/-- The product with the fifth layer's weights, at an index. -/
theorem plain5 : (Stages.mul5 (F := Ideal) x w : FVec Ideal S6400000x1 .f32) (ix2 n o) = ∑ k : Fin 5, x (ix2 n k) * w (ix2 (0 : Fin 1) k) := by
  obtain rfl : o = 0 := Subsingleton.elim _ _
  pointwise [Stages.mul5]

/-- The sum of products with the fifth layer's weights, at an index. -/
theorem sum5 : (Sums.mul5 (F := Ideal) x w : FVec Ideal S6400000 .f32) (ix1 n) = ∑ k : Fin 5, x (ix2 n k) * w (ix2 (0 : Fin 1) k) := by
  pointwise [Sums.mul5]

/-- Adding the bias to a column, at an index. -/
theorem bias_col (a : FVec Ideal S6400000x1 .f32) : (Stages.bias1 (F := Ideal) a b : FVec Ideal S6400000x1 .f32) (ix2 n o) = a (ix2 n o) + b (ix1 (0 : Fin 1)) := by
  pointwise [Stages.bias1]

/-- Adding the bias to a line and standing it up as a column, at an index. -/
theorem bias_line (a : FVec Ideal S6400000 .f32) : (Sums.col (F := Ideal) (Sums.bias1 (F := Ideal) a b) : FVec Ideal S6400000x1 .f32) (ix2 n o) = a (ix1 n) + b (ix1 (0 : Fin 1)) := by
  pointwise [Sums.col, Sums.bias1]
end

/-- The fifth layer is its sum of products, stood up as a column. -/
theorem last_eq (x : FVec Ideal S6400000x5 .f32) (w : FVec Ideal S1x5 .f32) (b : FVec Ideal S1 .f32) :
    Stages.bias1 (F := Ideal) (Stages.mul5 (F := Ideal) x w) b = Sums.col (F := Ideal) (Sums.bias1 (F := Ideal) (Sums.mul5 (F := Ideal) x w) b) :=
  pair_ext fun n o => (bias_col b n o _).trans
    ((congrArg (fun z : EReal => z + b (ix1 (0 : Fin 1))) ((plain5 x w n o).trans (sum5 x w n).symm)).trans (bias_line b n o _).symm)

/-- The length, cut off below, is the same before or after it is stood up as a column. -/
theorem cutoff_eq (r : FVec Ideal S6400000 .f32) : Stages.cutoff (F := Ideal) r = Sums.col (F := Ideal) (Sums.cutoff (F := Ideal) r) :=
  pair_ext fun n o => by pointwise [Stages.cutoff, Sums.cutoff, Sums.col]

end Cert.Layers

end
-- ==== Proof.Pool.lean ====
module

public import proofs.«01_k».proof.Proof.Layers
public import Idealize.ShloMosaic.Lib.Routing.OpsPair

@[expose] public section

noncomputable section

/-! ## The sum per segment over the extended reals

An update of the accumulating scatter lands at a row exactly when its id, read as a signed number, is the row; so each
element of the result is the sum over all edges of the messages with that id, which is the masked sum of `Sums`. -/

namespace Cert.Pool

open Cert.SumsIdeal Cert.SumsIdeal.Gen Idealize.ShloMosaic

/-- The scatter's dimension numbers. -/
abbrev dims := Cert.ReferenceIdeal.scatter_S100000x3_S6400000x1_S6400000x3_1_0_0_1

/-- The ids as a column. -/
abbrev idCol (a4 : IVec S6400000 32) : IVec S6400000x1 32 := broadcastInDim S6400000x1 ![0] bcast_S6400000_S6400000x1_0 a4

/-- The row an update starts at is its id read as a signed number. -/
theorem start_row (a4 : IVec S6400000 32) (n : Fin 6400000) (o : Fin 3) :
    dims.start (ix2 n o) (idCol a4) 0 = (a4 (ix1 n)).toInt := by
  unfold ScatterDims.start
  rw [dif_pos (by decide)]
  refine congrArg BitVec.toInt ?_
  show a4 _ = a4 _
  refine congrArg a4 (funext fun d => ?_)
  match d with
  | ⟨0, _⟩ => rfl

/-- The column an update starts at is zero. -/
theorem start_col (a4 : IVec S6400000 32) (n : Fin 6400000) (o : Fin 3) : dims.start (ix2 n o) (idCol a4) 1 = 0 := by
  unfold ScatterDims.start
  rw [dif_neg (by decide)]

/-- Within its window an update is at row zero. -/
theorem window_row (n : Fin 6400000) (o : Fin 3) : dims.window (ix2 n o) 0 = 0 := by
  unfold ScatterDims.window
  rw [dif_neg (by decide)]

/-- Within its window an update is at its own column. -/
theorem window_col (n : Fin 6400000) (o : Fin 3) : dims.window (ix2 n o) 1 = o.val := by
  unfold ScatterDims.window
  rw [dif_pos (by decide)]
  rfl

/-- An update lands at row `s`, column `p` exactly when its id is `s` and its column is `p`. -/
theorem lands_iff (a4 : IVec S6400000 32) (n : Fin 6400000) (o : Fin 3) (s : Fin 100000) (p : Fin 3) :
    dims.resultIdx? (ix2 n o) (idCol a4) = some (ix2 s p) ↔ (a4 (ix1 n)).toInt = (s.val : Int) ∧ o = p := by
  rw [Routing.resultIdx?_eq_some]
  constructor
  · intro h
    have h0 := h 0
    have h1 := h 1
    rw [start_row, window_row] at h0
    rw [start_col, window_col] at h1
    have e0 : ((ix2 s p : S100000x3.Idx) 0).val = s.val := rfl
    have e1 : ((ix2 s p : S100000x3.Idx) 1).val = p.val := rfl
    refine ⟨?_, Fin.ext ?_⟩ <;> omega
  · rintro ⟨h0, rfl⟩ a
    match a with
    | ⟨0, _⟩ =>
      show dims.start (ix2 n o) (idCol a4) 0 + (dims.window (ix2 n o) 0 : Int) = (s.val : Int)
      rw [start_row, window_row]; omega
    | ⟨1, _⟩ =>
      show dims.start (ix2 n o) (idCol a4) 1 + (dims.window (ix2 n o) 1 : Int) = (o.val : Int)
      rw [start_col, window_col]; omega

/-- A word below the number of segments is the segment's word exactly when it reads as the segment. -/
theorem word_iff (w : BitVec 32) (s : Fin 100000) : w = BitVec.ofNat 32 s.val ↔ w.toInt = (s.val : Int) := by
  have hs := s.isLt
  have e : (BitVec.ofNat 32 s.val).toInt = (s.val : Int) := by
    rw [BitVec.toInt_eq_toNat_of_lt] <;> rw [BitVec.toNat_ofNat, Nat.mod_eq_of_lt (by omega)]
    omega
  exact ⟨fun h => h ▸ e, fun h => BitVec.eq_of_toInt_eq (h.trans e.symm)⟩

/-- The masked messages, at an index, as a choice between two words' messages. -/
theorem masked_choice (a4 : IVec S6400000 32) (x : FVec Ideal S6400000x3 .f32) (s : Fin 100000) (n : Fin 6400000) (p : Fin 3) :
    (Sums.masked (F := Ideal) (Sums.belongs (F := Ideal) a4) x : FVec Ideal S100000x6400000x3 .f32) (ix3 s n p)
      = Scalar.select (IntOp.cmpi .eq (a4 (ix1 n)) (BitVec.ofNat 32 s.val)) (x (ix2 n p)) (0 : EReal) := by
  pointwise [Sums.masked, Sums.belongs]

/-- A choice on two words being equal. -/
theorem choice_eq (v w : BitVec 32) (a b : EReal) : Scalar.select (IntOp.cmpi .eq v w) a b = if v = w then a else b := by
  by_cases h : v = w
  · simp [h, IntOp.cmpi, Scalar.select]
  · have e : (v == w) = false := beq_false_of_ne h
    simp [h, e, IntOp.cmpi, Scalar.select]

/-- The masked messages, at an index. -/
theorem masked_at (a4 : IVec S6400000 32) (x : FVec Ideal S6400000x3 .f32) (s : Fin 100000) (n : Fin 6400000) (p : Fin 3) :
    (Sums.masked (F := Ideal) (Sums.belongs (F := Ideal) a4) x : FVec Ideal S100000x6400000x3 .f32) (ix3 s n p)
      = if (a4 (ix1 n)).toInt = (s.val : Int) then x (ix2 n p) else (0 : EReal) :=
  (masked_choice a4 x s n p).trans ((choice_eq _ _ _ _).trans (if_congr (word_iff (a4 (ix1 n)) s) rfl rfl))

/-- The total over all edges, at an index. -/
theorem total_at (y : FVec Ideal S100000x6400000x3 .f32) (s : Fin 100000) (p : Fin 3) :
    (Sums.total (F := Ideal) y : FVec Ideal S100000x3 .f32) (ix2 s p) = ∑ n : Fin 6400000, y (ix3 s n p) := by
  pointwise [Sums.total]

/-- The operand of the scatter is zero everywhere. -/
theorem zero_at (s : Fin 100000) (p : Fin 3) :
    (broadcastInDim Cert.ReferenceIdeal.S100000x3 ![] Cert.ReferenceIdeal.Gen.bcast_S_S100000x3 (constant Cert.ReferenceIdeal.S_ .f32 0x00000000#32) : FVec Ideal S100000x3 .f32) (ix2 s p) = 0 := by
  pointwise

/-- A sum over the pairs of a filter that fixes the second coordinate is a sum over the first. -/
theorem sum_pairs {a b : Nat} (f : (⟨2, ![a, b]⟩ : Shape).Idx → EReal) (q : (⟨2, ![a, b]⟩ : Shape).Idx → Prop) [DecidablePred q]
    (c : Fin a → Prop) [DecidablePred c] (p : Fin b) (h : ∀ n o, q (ix2 n o) ↔ c n ∧ o = p) :
    ∑ j ∈ Finset.univ.filter q, f j = ∑ n : Fin a, if c n then f (ix2 n p) else 0 := by
  rw [← Finset.sum_filter]
  have key : ∀ j : (⟨2, ![a, b]⟩ : Shape).Idx, q j → c (j 0) ∧ ix2 (n0 := a) (n1 := b) (j 0) p = j := fun j hj => by
    have e : ix2 (n0 := a) (n1 := b) (j 0) (j 1) = j := ix2_eta j
    have k := (h (j 0) (j 1)).1 (e.symm ▸ hj)
    exact ⟨k.1, (congrArg (fun o : Fin b => ix2 (n0 := a) (n1 := b) (j 0) o) k.2.symm).trans e⟩
  refine Finset.sum_bij' (fun j _ => (j 0 : Fin a)) (fun n _ => ix2 n p) ?_ ?_ ?_ ?_ ?_
  · exact fun j hj => Finset.mem_filter.2 ⟨Finset.mem_univ _, (key j (Finset.mem_filter.1 hj).2).1⟩
  · exact fun n hn => Finset.mem_filter.2 ⟨Finset.mem_univ _, (h n p).2 ⟨(Finset.mem_filter.1 hn).2, rfl⟩⟩
  · exact fun j hj => (key j (Finset.mem_filter.1 hj).2).2
  · exact fun n _ => rfl
  · exact fun j hj => congrArg f (key j (Finset.mem_filter.1 hj).2).2.symm

/-- An accumulating scatter at an index: the operand plus the sum of the updates that land there. -/
theorem scatter_at {s si su : Shape} (d : ScatterDims s si su) (z : FVec Ideal s .f32) (idx : IVec si 32) (x : FVec Ideal su .f32) (i : s.Idx) :
    (Host.scatterAdd d z idx x : FVec Ideal s .f32) i = z i + ∑ j ∈ Finset.univ.filter (fun j => d.resultIdx? j idx = some i), x j := rfl

/-- The updates that land at an index, added up. -/
theorem landed (a4 : IVec S6400000 32) (x : FVec Ideal S6400000x3 .f32) (s : Fin 100000) (p : Fin 3) :
    ∑ j ∈ Finset.univ.filter (fun j => dims.resultIdx? j (idCol a4) = some (ix2 s p)), x j
      = ∑ n : Fin 6400000, if (a4 (ix1 n)).toInt = (s.val : Int) then x (ix2 n p) else (0 : EReal) :=
  sum_pairs x _ (fun n => (a4 (ix1 n)).toInt = (s.val : Int)) p (fun n o => lands_iff a4 n o s p)

/-- The scatter's result at an index. -/
theorem pool_at (a4 : IVec S6400000 32) (x : FVec Ideal S6400000x3 .f32) (s : Fin 100000) (p : Fin 3) :
    (Stages.pool (F := Ideal) a4 x : FVec Ideal S100000x3 .f32) (ix2 s p)
      = ∑ n : Fin 6400000, if (a4 (ix1 n)).toInt = (s.val : Int) then x (ix2 n p) else (0 : EReal) := by
  refine (scatter_at dims _ (idCol a4) x (ix2 s p)).trans ?_
  refine (congrArg₂ (fun y z : EReal => y + z) (zero_at s p) (landed a4 x s p)).trans ?_
  exact zero_add _

/-- The sum per segment is the masked sum. -/
theorem pool_eq (a4 : IVec S6400000 32) (x : FVec Ideal S6400000x3 .f32) :
    Stages.pool (F := Ideal) a4 x = Sums.total (F := Ideal) (Sums.masked (F := Ideal) (Sums.belongs (F := Ideal) a4) x) :=
  Layers.pair_ext fun s p => (pool_at a4 x s p).trans
    ((Finset.sum_congr rfl fun n _ => (masked_at a4 x s n p).symm).trans (total_at _ s p).symm)

end Cert.Pool

end
-- ==== Proof.Equation.lean ====
module

public import proofs.«01_k».proof.Proof.Layers
public import proofs.«01_k».proof.Proof.Pool

@[expose] public section

noncomputable section

/-! ## The equation

Over the extended reals the staged result, whose linear layers are products of matrices and whose pooling is an
accumulating scatter, is the result spelled with explicit sums. -/

namespace Cert.Equation

open Cert.SumsIdeal Idealize.ShloMosaic

/-- The two spellings of the result are equal. -/
theorem result_eq (a0 : FVec Ideal S6400000 .f32) (a1 : FVec Ideal S6400000x3 .f32) (a2 : FVec Ideal S100000 .f32)
    (a3 : FVec Ideal S100000x3 .f32) (a4 : IVec S6400000 32) (a5 : FVec Ideal S10x2 .f32) (a6 : FVec Ideal S10 .f32)
    (a7 : FVec Ideal S20x10 .f32) (a8 : FVec Ideal S20 .f32) (a9 : FVec Ideal S10x20 .f32) (a10 : FVec Ideal S10 .f32)
    (a11 : FVec Ideal S5x10 .f32) (a12 : FVec Ideal S5 .f32) (a13 : FVec Ideal S1x5 .f32) (a14 : FVec Ideal S1 .f32) :
    Stages.result (F := Ideal) a0 a1 a2 a3 a4 a5 a6 a7 a8 a9 a10 a11 a12 a13 a14
      = Sums.result (F := Ideal) a0 a1 a2 a3 a4 a5 a6 a7 a8 a9 a10 a11 a12 a13 a14 := by
  unfold Stages.result Sums.result
  rw [Pool.pool_eq, Layers.mul1_eq, Layers.mul2_eq, Layers.mul3_eq, Layers.mul4_eq, Layers.last_eq, Layers.cutoff_eq]

end Cert.Equation

end
-- ==== Proof.lean ====
/- The claims, put together: every program's run, frame and final counters are the generated modules'; what the
   kernel's result array holds and what the references compute are the `…Value` modules'; the equation of the two
   spellings is `Equation`'s. -/
module

public import proofs.«01_k».proof.Defs
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.Gen.SumsIdeal.Run
public import proofs.«01_k».proof.Proof.KernelValue
public import proofs.«01_k».proof.Proof.KernelIdealValue
public import proofs.«01_k».proof.Proof.ReferenceValue
public import proofs.«01_k».proof.Proof.ReferenceIdealValue
public import proofs.«01_k».proof.Proof.SumsIdealValue
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- `Kernel` runs, leaves its arguments and ends with every counter at zero. -/
theorem quiescent_Kernel : Cert.quiescent_Kernel (hKernel := Cert.Kernel.Gen.facts) :=
  fun m ρ _ => Cert.Kernel.Gen.frame m ρ

/-- `KernelIdeal` runs, leaves its arguments and ends with every counter at zero. -/
theorem quiescent_KernelIdeal : Cert.quiescent_KernelIdeal (hKernelIdeal := Cert.KernelIdeal.Gen.facts) :=
  fun m ρ _ => Cert.KernelIdeal.Gen.frame m ρ

/-- `Reference` runs, leaves its arguments and ends with every counter at zero: it has no semaphores. -/
theorem quiescent_Reference : Cert.quiescent_Reference (hReference := Cert.Reference.Gen.facts) :=
  fun m ρ _ => (θ_run Cert.Reference.defs _ _).mono
    (fun r h => ⟨fun c => (h c).2, sem_eq_zero_of_no_sems (by decide) r.2⟩) (Cert.Reference.Value.run m ρ)

/-- `ReferenceIdeal` runs, leaves its arguments and ends with every counter at zero: it has no semaphores. -/
theorem quiescent_ReferenceIdeal : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

/-- `SumsIdeal` runs, leaves its arguments and ends with every counter at zero: it has no semaphores. -/
theorem quiescent_SumsIdeal : Cert.quiescent_SumsIdeal (hSumsIdeal := Cert.SumsIdeal.Gen.facts) :=
  fun m ρ _ => (θ_run Cert.SumsIdeal.defs _ _).mono
    (fun r h => ⟨fun c => (h c).2, sem_eq_zero_of_no_sems (by decide) r.2⟩) (Cert.SumsIdeal.Value.run m ρ)

/-- At the machine's floats the kernel's result is the reference's, word for word. -/
theorem bitexact_Kernel_Reference :
    Cert.bitexact_Kernel_Reference (hKernel := Cert.Kernel.Gen.facts) (hReference := Cert.Reference.Gen.facts) := by
  intro m ρ m' ρ' _ hagree
  refine ⟨fun c => Cert.Kernel.Gen.V m c Cert.Kernel.main_v48, ?_, ?_⟩
  · exact (θ_run Cert.Kernel.defs _ _).mono (fun r h c => ⟨(h c).1.trans (Cert.Kernel.Whole.final m c), (h c).2⟩)
      (Cert.Kernel.Value.run_blocks m ρ)
  · refine (θ_run Cert.Reference.defs _ _).mono (fun r h c => ⟨(h c).1.trans ?_, (h c).2⟩) (Cert.Reference.Value.run m' ρ')
    obtain ⟨h0, h1, h2, h3, h4, h5, h6, h7, h8, h9, h10, h11, h12, h13, h14⟩ := hagree c
    refine (Cert.Reference.Whole.result_eq m' c).trans (Eq.trans ?_ (Cert.Kernel.Whole.entry_eq m c).symm)
    rw [h0, h1, h2, h3, h4, h5, h6, h7, h8, h9, h10, h11, h12, h13, h14]

/-- Over the extended reals the kernel's result is the reference's. -/
theorem algebraic_KernelIdeal_ReferenceIdeal :
    Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Gen.V m c Cert.KernelIdeal.main_v48, ?_, ?_⟩
  · exact (θ_run Cert.KernelIdeal.defs _ _).mono (fun r h c => ⟨(h c).1.trans (Cert.KernelIdeal.Whole.final m c), (h c).2⟩)
      (Cert.KernelIdeal.Value.run_blocks m ρ)
  · refine (θ_run Cert.ReferenceIdeal.defs _ _).mono (fun r h c => ⟨(h c).1.trans ?_, (h c).2⟩) (Cert.ReferenceIdeal.Value.run m' ρ')
    obtain ⟨h0, h1, h2, h3, h4, h5, h6, h7, h8, h9, h10, h11, h12, h13, h14⟩ := hagree c
    refine (Cert.ReferenceIdeal.Whole.result_eq m' c).trans (Eq.trans ?_ (Cert.KernelIdeal.Whole.entry_eq m c).symm)
    rw [h0, h1, h2, h3, h4, h5, h6, h7, h8, h9, h10, h11, h12, h13, h14]

/-- Over the extended reals the kernel's result is the one spelled with explicit sums. -/
theorem algebraic_KernelIdeal_SumsIdeal :
    Cert.algebraic_KernelIdeal_SumsIdeal (hKernelIdeal := Cert.KernelIdeal.Gen.facts) (hSumsIdeal := Cert.SumsIdeal.Gen.facts) := by
  intro m ρ m' ρ' _ hagree
  refine ⟨fun c => Cert.KernelIdeal.Gen.V m c Cert.KernelIdeal.main_v48, ?_, ?_⟩
  · exact (θ_run Cert.KernelIdeal.defs _ _).mono (fun r h c => ⟨(h c).1.trans (Cert.KernelIdeal.Whole.final m c), (h c).2⟩)
      (Cert.KernelIdeal.Value.run_blocks m ρ)
  · refine (θ_run Cert.SumsIdeal.defs _ _).mono (fun r h c => ⟨(h c).1.trans ?_, (h c).2⟩) (Cert.SumsIdeal.Value.run m' ρ')
    obtain ⟨h0, h1, h2, h3, h4, h5, h6, h7, h8, h9, h10, h11, h12, h13, h14⟩ := hagree c
    refine (Cert.SumsIdeal.Whole.result_eq m' c).trans (Eq.trans ?_ (Cert.KernelIdeal.Whole.entry_eq m c).symm)
    rw [h0, h1, h2, h3, h4, h5, h6, h7, h8, h9, h10, h11, h12, h13, h14]
    exact (Equation.result_eq _ _ _ _ _ _ _ _ _ _ _ _ _ _ _).symm

/-- Every claim of the certificate. -/
theorem claim : Cert.Claim :=
  ⟨Cert.Kernel.Gen.facts, Cert.KernelIdeal.Gen.facts, Cert.Reference.Gen.facts, Cert.ReferenceIdeal.Gen.facts,
    Cert.SumsIdeal.Gen.facts, quiescent_Kernel, quiescent_KernelIdeal, quiescent_Reference, quiescent_ReferenceIdeal,
    quiescent_SumsIdeal, trivial, bitexact_Kernel_Reference, algebraic_KernelIdeal_ReferenceIdeal,
    algebraic_KernelIdeal_SumsIdeal⟩

end Cert.Proof

end
